-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_0)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_0) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x7168 : Shape := ⟨3, ![2, 8192, 7168]⟩
abbrev S256x1024 : Shape := ⟨2, ![256, 1024]⟩
abbrev S256 : Shape := ⟨1, ![256]⟩
abbrev S_ : Shape := ⟨0, ![]⟩
abbrev S1 : Shape := ⟨1, ![1]⟩
abbrev S16384x7168 : Shape := ⟨2, ![16384, 7168]⟩
abbrev S2x128 : Shape := ⟨2, ![2, 128]⟩
abbrev S256x7168 : Shape := ⟨2, ![256, 7168]⟩
abbrev S2x32x128 : Shape := ⟨3, ![2, 32, 128]⟩
abbrev S16x7168 : Shape := ⟨2, ![16, 7168]⟩
abbrev S1x128 : Shape := ⟨2, ![1, 128]⟩
abbrev S8x128 : Shape := ⟨2, ![8, 128]⟩
abbrev S8x128x1 : Shape := ⟨3, ![8, 128, 1]⟩
abbrev S32x128 : Shape := ⟨2, ![32, 128]⟩
abbrev S1x32x128 : Shape := ⟨3, ![1, 32, 128]⟩
abbrev S256x128 : Shape := ⟨2, ![256, 128]⟩
abbrev S128x128 : Shape := ⟨2, ![128, 128]⟩
abbrev S128 : Shape := ⟨1, ![128]⟩
abbrev S1x1x128 : Shape := ⟨3, ![1, 1, 128]⟩
abbrev S16x16x128 : Shape := ⟨3, ![16, 16, 128]⟩
abbrev S16x128 : Shape := ⟨2, ![16, 128]⟩
abbrev S32x128x1 : Shape := ⟨3, ![32, 128, 1]⟩

abbrev nBuf : Space → Nat
  | .hbm => 11
  | .vmem => 12
  | .smem => 1
  | _ => 0

abbrev bufTy : (tb : Table) → Fin (tcTables nBuf tb) → BufTy
  | .hbm, ⟨0, _⟩ => ⟨S2x8192x7168, .bf16⟩
  | .hbm, ⟨1, _⟩ => ⟨S256x1024, .f32⟩
  | .hbm, ⟨2, _⟩ => ⟨S256, .f32⟩
  | .hbm, ⟨3, _⟩ => ⟨S_, .i32⟩
  | .hbm, ⟨4, _⟩ => ⟨S1, .i32⟩
  | .hbm, ⟨5, _⟩ => ⟨S16384x7168, .bf16⟩
  | .hbm, ⟨6, _⟩ => ⟨S2x128, .f32⟩
  | .hbm, ⟨7, _⟩ => ⟨S16384x7168, .fp8e4m3⟩
  | .hbm, ⟨8, _⟩ => ⟨S2x128, .f32⟩
  | .hbm, ⟨9, _⟩ => ⟨S2x128, .f32⟩
  | .hbm, ⟨10, _⟩ => ⟨S2x128, .f32⟩
  | .local _ .vmem, ⟨0, _⟩ => ⟨S256x7168, .bf16⟩
  | .local _ .vmem, ⟨1, _⟩ => ⟨S256x7168, .bf16⟩
  | .local _ .vmem, ⟨2, _⟩ => ⟨S256x1024, .f32⟩
  | .local _ .vmem, ⟨3, _⟩ => ⟨S2x128, .f32⟩
  | .local _ .vmem, ⟨4, _⟩ => ⟨S256x7168, .fp8e4m3⟩
  | .local _ .vmem, ⟨5, _⟩ => ⟨S256x7168, .fp8e4m3⟩
  | .local _ .vmem, ⟨6, _⟩ => ⟨S2x128, .f32⟩
  | .local _ .vmem, ⟨7, _⟩ => ⟨S2x128, .f32⟩
  | .local _ .vmem, ⟨8, _⟩ => ⟨S2x128, .f32⟩
  | .local _ .vmem, ⟨9, _⟩ => ⟨S2x32x128, .f32⟩
  | .local _ .vmem, ⟨10, _⟩ => ⟨S16x7168, .bf16⟩
  | .local _ .vmem, ⟨11, _⟩ => ⟨S2x128, .f32⟩
  | .local _ .smem, ⟨0, _⟩ => ⟨S1, .i32⟩
  | _, _ => ⟨S2x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v1179 : BitVec 1 := Scalar.cmpi .eq arg0 c63_i32
  let v1180 : BitVec 32 := Scalar.extui v1179
  let c0_i32_701 : BitVec 32 := 0#32
  let v1181 : BitVec 1 := Scalar.cmpi .ne v1180 c0_i32_701
  v1181

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x8192x7168 : Shape := ⟨3, ![2, 8192, 7168]⟩
abbrev S256x1024 : Shape := ⟨2, ![256, 1024]⟩
abbrev S256 : Shape := ⟨1, ![256]⟩
abbrev S_ : Shape := ⟨0, ![]⟩
abbrev S2x8192x256x28 : Shape := ⟨4, ![2, 8192, 256, 28]⟩
abbrev S256x1 : Shape := ⟨2, ![256, 1]⟩
abbrev S1x1x256x1 : Shape := ⟨4, ![1, 1, 256, 1]⟩
abbrev S16384x7168 : Shape := ⟨2, ![16384, 7168]⟩
abbrev S16384x256x28 : Shape := ⟨3, ![16384, 256, 28]⟩
abbrev S1024 : Shape := ⟨1, ![1024]⟩
abbrev S1x1024 : Shape := ⟨2, ![1, 1024]⟩
abbrev S254 : Shape := ⟨1, ![254]⟩
abbrev S1x254 : Shape := ⟨2, ![1, 254]⟩
abbrev S256x254 : Shape := ⟨2, ![256, 254]⟩
abbrev S2x128 : Shape := ⟨2, ![2, 128]⟩

abbrev nBuf : Space → Nat
  | .hbm => 82
  | .vmem => 2
  | .smem => 0
  | _ => 0

abbrev bufTy : (tb : Table) → Fin (tcTables nBuf tb) → BufTy
  | .hbm, ⟨0, _⟩ => ⟨S2x8192x7168, .bf16⟩
  | .hbm, ⟨1, _⟩ => ⟨S256x1024, .f32⟩
  | .hbm, ⟨2, _⟩ => ⟨S256, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S2x8192x256x28, .bf16⟩
  | .hbm, ⟨15, _⟩ => ⟨S2x8192x256x28, .f32⟩
  | .hbm, ⟨16, _⟩ => ⟨S256x1, .f32⟩
  | .hbm, ⟨17, _⟩ => ⟨S1x1x256x1, .f32⟩
  | .hbm, ⟨18, _⟩ => ⟨S2x8192x256x28, .f32⟩
  | .hbm, ⟨19, _⟩ => ⟨S2x8192x256x28, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x8192x256x28, .f32⟩
  | .hbm, ⟨24, _⟩ => ⟨S2x8192x256x28, .f32⟩
  | .hbm, ⟨25, _⟩ => ⟨S_, .f32⟩
  | .hbm, ⟨26, _⟩ => ⟨S2x8192x256x28, .f32⟩
  | .hbm, ⟨27, _⟩ => ⟨S2x8192x256x28, .f32⟩
  | .hbm, ⟨28, _⟩ => ⟨S16384x7168, .f32⟩
  | .hbm, ⟨29, _⟩ => ⟨S16384x7168, .fp8e4m3⟩
  | .hbm, ⟨30, _⟩ => ⟨S16384x256x28, .bf16⟩
  | .hbm, ⟨31, _⟩ => ⟨S16384x256x28, .bf16⟩
  | .hbm, ⟨32, _⟩ => ⟨S_, .bf16⟩
  | .hbm, ⟨33, _⟩ => ⟨S256, .bf16⟩
  | .hbm, ⟨34, _⟩ => ⟨S256, .f32⟩
  | .hbm, ⟨35, _⟩ => ⟨S1024, .i32⟩
  | .hbm, ⟨36, _⟩ => ⟨S1x1024, .i32⟩
  | .hbm, ⟨37, _⟩ => ⟨S1x1024, .i32⟩
  | .hbm, ⟨38, _⟩ => ⟨S1x1024, .i1⟩
  | .hbm, ⟨39, _⟩ => ⟨S256x1, .f32⟩
  | .hbm, ⟨40, _⟩ => ⟨S256x1024, .i1⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S254, .f32⟩
  | .hbm, ⟨49, _⟩ => ⟨S_, .f32⟩
  | .hbm, ⟨50, _⟩ => ⟨S254, .f32⟩
  | .hbm, ⟨51, _⟩ => ⟨S254, .f32⟩
  | .hbm, ⟨52, _⟩ => ⟨S_, .f32⟩
  | .hbm, ⟨53, _⟩ => ⟨S254, .f32⟩
  | .hbm, ⟨54, _⟩ => ⟨S254, .f32⟩
  | .hbm, ⟨55, _⟩ => ⟨S1x254, .f32⟩
  | .hbm, ⟨56, _⟩ => ⟨S256x1, .f32⟩
  | .hbm, ⟨57, _⟩ => ⟨S256x254, .f32⟩
  | .hbm, ⟨58, _⟩ => ⟨S256x254, .f32⟩
  | .hbm, ⟨59, _⟩ => ⟨S256x254, .i1⟩
  | .hbm, ⟨60, _⟩ => ⟨S1x254, .f32⟩
  | .hbm, ⟨61, _⟩ => ⟨S_, .f32⟩
  | .hbm, ⟨62, _⟩ => ⟨S_, .f32⟩
  | .hbm, ⟨63, _⟩ => ⟨S256x254, .f32⟩
  | .hbm, ⟨64, _⟩ => ⟨S256x254, .f32⟩
  | .hbm, ⟨65, _⟩ => ⟨S256x254, .f32⟩
  | .hbm, ⟨66, _⟩ => ⟨S_, .f32⟩
  | .hbm, ⟨67, _⟩ => ⟨S256, .f32⟩
  | .hbm, ⟨68, _⟩ => ⟨S_, .f32⟩
  | .hbm, ⟨69, _⟩ => ⟨S256, .f32⟩
  | .hbm, ⟨70, _⟩ => ⟨S256, .i1⟩
  | .hbm, ⟨71, _⟩ => ⟨S_, .f32⟩
  | .hbm, ⟨72, _⟩ => ⟨S256, .f32⟩
  | .hbm, ⟨73, _⟩ => ⟨S256, .i1⟩
  | .hbm, ⟨74, _⟩ => ⟨S256, .i1⟩
  | .hbm, ⟨75, _⟩ => ⟨S_, .f32⟩
  | .hbm, ⟨76, _⟩ => ⟨S_, .f32⟩
  | .hbm, ⟨77, _⟩ => ⟨S256, .f32⟩
  | .hbm, ⟨78, _⟩ => ⟨S256, .f32⟩
  | .hbm, ⟨79, _⟩ => ⟨S2x128, .f32⟩
  | .hbm, ⟨80, _⟩ => ⟨S2x128, .f32⟩
  | .hbm, ⟨81, _⟩ => ⟨S2x128, .f32⟩
  | .local _ .vmem, ⟨0, _⟩ => ⟨S16384x7168, .f32⟩
  | .local _ .vmem, ⟨1, _⟩ => ⟨S16384x7168, .fp8e4m3⟩
  | _, _ => ⟨S2x8192x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call2_v0 : Ref sig .tc := ⟨.hbm, 40, rfl⟩
abbrev main_call2_v1 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_call4_v0 : Ref sig .tc := ⟨.hbm, 76, rfl⟩
abbrev main_call4_v1 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16384x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KRuns.lean ====
/- What the three cases of the kernel body share: the two conditions of its `pl.when`s in closed form, the memrefs the
   pipeline passes at a grid point, and the region's invariant over the kernel's own scratch. -/
module

public import proofs.«01_k».proof.Proof.Gen.KernelIdeal.Skeleton
public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, k0_cond1, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .i32 := win0_0.stage (cfg0.slots t 0)
/-- The buffer of the step is a whole one. -/
abbrev hs0_0 (t : Fin cfg0.N) : (ms0_0 t).IsWhole := hstage0_0 ((cfg0.slots t 0).cast nbuf0_0)
/-- The buffer of the input at a point. -/
abbrev ms0_1 (t : Fin cfg0.N) : Memref sig .tc .vmem S256x7168 .bf16 := win0_1.stage (cfg0.slots t 1)
/-- The buffer of the input is a whole one. -/
abbrev hs0_1 (t : Fin cfg0.N) : (ms0_1 t).IsWhole := hstage0_1 ((cfg0.slots t 1).cast nbuf0_1)
/-- The buffer of the history at a point. -/
abbrev ms0_2 (t : Fin cfg0.N) : Memref sig .tc .vmem S256x1024 .f32 := win0_2.stage (cfg0.slots t 2)
/-- The buffer of the history is a whole one. -/
abbrev hs0_2 (t : Fin cfg0.N) : (ms0_2 t).IsWhole := hstage0_2 ((cfg0.slots t 2).cast nbuf0_2)
/-- The buffer of the scale at a point. -/
abbrev ms0_3 (t : Fin cfg0.N) : Memref sig .tc .vmem S2x128 .f32 := win0_3.stage (cfg0.slots t 3)
/-- The buffer of the scale is a whole one. -/
abbrev hs0_3 (t : Fin cfg0.N) : (ms0_3 t).IsWhole := hstage0_3 ((cfg0.slots t 3).cast nbuf0_3)
/-- The buffer of the codes at a point. -/
abbrev ms0_4 (t : Fin cfg0.N) : Memref sig .tc .vmem S256x7168 .fp8e4m3 := win0_4.stage (cfg0.slots t 4)
/-- The buffer of the codes is a whole one. -/
abbrev hs0_4 (t : Fin cfg0.N) : (ms0_4 t).IsWhole := hstage0_4 ((cfg0.slots t 4).cast nbuf0_4)
/-- The buffer of the maxima at a point. -/
abbrev ms0_5 (t : Fin cfg0.N) : Memref sig .tc .vmem S2x128 .f32 := win0_5.stage (cfg0.slots t 5)
/-- The buffer of the maxima is a whole one. -/
abbrev hs0_5 (t : Fin cfg0.N) : (ms0_5 t).IsWhole := hstage0_5 ((cfg0.slots t 5).cast nbuf0_5)
/-- The buffer of the new scales at a point. -/
abbrev ms0_6 (t : Fin cfg0.N) : Memref sig .tc .vmem S2x128 .f32 := win0_6.stage (cfg0.slots t 6)
/-- The buffer of the new scales is a whole one. -/
abbrev hs0_6 (t : Fin cfg0.N) : (ms0_6 t).IsWhole := hstage0_6 ((cfg0.slots t 6).cast nbuf0_6)
/-- The buffer of the scales in use at a point. -/
abbrev ms0_7 (t : Fin cfg0.N) : Memref sig .tc .vmem S2x128 .f32 := win0_7.stage (cfg0.slots t 7)
/-- The buffer of the scales in use is a whole one. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2x32x128 .f32 := Memref.whole cc0_scratch0
/-- The scratch buffer of the running maximum. -/
abbrev scM0_1 : Memref sig .tc .vmem S16x7168 .bf16 := Memref.whole cc0_scratch1
/-- The scratch buffer of the history's maximum. -/
abbrev scM0_2 : Memref sig .tc .vmem S2x128 .f32 := Memref.whole cc0_scratch2
/-- The scratch `arg10` the kernel carries between points, as a view: what it holds is stated through it. -/
abbrev VS0_1 : View sig .tc .vmem S16x7168 .bf16 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KRunA.lean ====
/- The whole-body run of the kernel at the first point (both scratch tables and the accumulator are set up, then every column tile is done). -/
module

public import proofs.«01_k».proof.Proof.KRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2528000 in
/-- What the body's stores leave in each buffer it writes, as pieces (last first), at the first point (both scratch tables and the accumulator are set up, then every column tile is done); with the proof that from
    the inputs' blocks, the scratch contents named here and anything in the buffers it overwrites, the body runs to a
    state that holds those pieces written and every other buffer as it was. The pieces are found by the run. -/
noncomputable def kRunA (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : cond0_0 i) (hc1 : ¬cond0_1 i)
    (x0 : Vec F S1 .i32) (x1 : Vec F S256x7168 .bf16) (x2 : Vec F S256x1024 .f32) (x3 : Vec F S2x128 .f32)  :
    Σ' (L5 : List (View.Piece (Elt F) S256x7168 .fp8e4m3)) (L8 : List (View.Piece (Elt F) S2x128 .f32)) (L9 : List (View.Piece (Elt F) S2x32x128 .f32)) (L10 : List (View.Piece (Elt F) S16x7168 .bf16)), { L11 : List (View.Piece (Elt F) S2x128 .f32) //
      ∀ (E : Set ℕ) (d5 : Vec F S2x128 .f32) (d6 : Vec F S2x128 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ owns (c : Thread nD τ) arg6 fullShare d5 ∗ owns (c : Thread nD τ) arg7 fullShare d6 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11)) -∗ K ⟨⟩))
          ⊢ wp frame (wpE (defs₀ (F := F)) Variants.none c none) E (cc0_delayed_scale i arg1 harg1 arg2 harg2 arg3 harg3 arg4 harg4 arg5 harg5 arg6 harg6 arg7 harg7 arg8 harg8 arg9 harg9 arg10 harg10 arg11 harg11) K } := by
  refine ⟨?_, ?_, ?_, ?_, ?_, fun E d5 d6 K => ?run⟩
  case run =>
    simp only [cc0_delayed_scale_eq_skeleton]; unfold cc0_delayed_scale_skel
    simp only [k0_part57_eq_skeleton, k0_part23_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; iexact H7
    isplitl [H8]
    · iexists _; iexact H8
    isplitl [H9]
    · iexists _; iexact H9
    iexists _; iexact H10

end Cert.KernelIdeal.Gen

end
-- ==== Proof.KRunB.lean ====
/- The whole-body run of the kernel at a point that is neither first nor last (every column tile is done). -/
module

public import proofs.«01_k».proof.Proof.KRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2364000 in
/-- What the body's stores leave in each buffer it writes, as pieces (last first), at a point that is neither first nor last (every column tile is done); with the proof that from
    the inputs' blocks, the scratch contents named here and anything in the buffers it overwrites, the body runs to a
    state that holds those pieces written and every other buffer as it was. The pieces are found by the run. -/
noncomputable def kRunB (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : ¬cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32) :
    Σ' (L5 : List (View.Piece (Elt F) S256x7168 .fp8e4m3)), { L10 : List (View.Piece (Elt F) S16x7168 .bf16) //
      ∀ (E : Set ℕ) (d5 : Vec F S2x128 .f32) (d6 : Vec F S2x128 .f32) (d7 : Vec F S2x128 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare d5 ∗ owns (c : Thread nD τ) arg7 fullShare d6 ∗ owns (c : Thread nD τ) arg8 fullShare d7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ owns (c : Thread nD τ) arg6 fullShare d5 ∗ owns (c : Thread nD τ) arg7 fullShare d6 ∗ owns (c : Thread nD τ) arg8 fullShare d7 ∗ owns (c : Thread nD τ) arg9 fullShare xs0 ∗ (∃ f, arg10.view.loc (c : Thread nD τ) ↦[arg10.view.set]{fullShare} arg10.view.writes (Elt F) f L10) ∗ owns (c : Thread nD τ) arg11 fullShare xs2) -∗ K ⟨⟩))
          ⊢ wp frame (wpE (defs₀ (F := F)) Variants.none c none) E (cc0_delayed_scale i arg1 harg1 arg2 harg2 arg3 harg3 arg4 harg4 arg5 harg5 arg6 harg6 arg7 harg7 arg8 harg8 arg9 harg9 arg10 harg10 arg11 harg11) K } := by
  refine ⟨?_, ?_, fun E d5 d6 d7 K => ?run⟩
  case run =>
    simp only [cc0_delayed_scale_eq_skeleton]; unfold cc0_delayed_scale_skel
    simp only [k0_part57_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact H10

end Cert.KernelIdeal.Gen

end
-- ==== Proof.KRunC.lean ====
/- The whole-body run of the kernel at the last point (every column tile is done, then the maxima are reduced and the new scales computed). -/
module

public import proofs.«01_k».proof.Proof.KRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 3008000 in
/-- What the body's stores leave in each buffer it writes, as pieces (last first), at the last point (every column tile is done, then the maxima are reduced and the new scales computed); with the proof that from
    the inputs' blocks, the scratch contents named here and anything in the buffers it overwrites, the body runs to a
    state that holds those pieces written and every other buffer as it was. The pieces are found by the run. -/
noncomputable def kRunC (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32) :
    Σ' (L5 : List (View.Piece (Elt F) S256x7168 .fp8e4m3)) (L6 : List (View.Piece (Elt F) S2x128 .f32)) (L7 : List (View.Piece (Elt F) S2x128 .f32)), { L10 : List (View.Piece (Elt F) S16x7168 .bf16) //
      ∀ (E : Set ℕ) (d7 : Vec F S2x128 .f32) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare d7 ∗ owns (c : Thread nD τ) arg9 fullShare xs0 ∗ owns (c : Thread nD τ) arg10 fullShare xs1 ∗ owns (c : Thread nD τ) arg11 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ owns (c : Thread nD τ) arg8 fullShare d7 ∗ owns (c : Thread nD τ) arg9 fullShare xs0 ∗ (∃ f, arg10.view.loc (c : Thread nD τ) ↦[arg10.view.set]{fullShare} arg10.view.writes (Elt F) f L10) ∗ owns (c : Thread nD τ) arg11 fullShare xs2) -∗ K ⟨⟩))
          ⊢ wp frame (wpE (defs₀ (F := F)) Variants.none c none) E (cc0_delayed_scale i arg1 harg1 arg2 harg2 arg3 harg3 arg4 harg4 arg5 harg5 arg6 harg6 arg7 harg7 arg8 harg8 arg9 harg9 arg10 harg10 arg11 harg11) K } := by
  refine ⟨?_, ?_, ?_, ?_, fun E d7 K => ?run⟩
  case run =>
    simp only [cc0_delayed_scale_eq_skeleton]; unfold cc0_delayed_scale_skel
    simp only [k0_part57_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
    obtain rfl := harg1.eq_unread hf0; obtain rfl := harg2.eq_unread hf1; obtain rfl := harg3.eq_unread hf2; obtain rfl := harg4.eq_unread hf3; obtain rfl := harg8.eq_unread hf7; obtain rfl := harg9.eq_unread hf8; obtain rfl := harg10.eq_unread hf9; obtain rfl := harg11.eq_unread hf10
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [H6]
    · iexists _; iexact H6
    isplitl [H7]
    · iexists _; isplitr; · ipureintro; exact harg8.read_unread _
      iexact H7
    isplitl [H8]
    · iexists _; isplitr; · ipureintro; exact harg9.read_unread _
      iexact H8
    isplitl [H9]
    · iexists _; iexact H9
    iexists _; isplitr; · ipureintro; exact harg11.read_unread _
    iexact H10

end Cert.KernelIdeal.Gen

end
-- ==== Proof.KTiles.lean ====
/- The pieces the kernel body stores at each kind of point, as plain families of tiles. -/
module

public import proofs.«01_k».proof.Proof.KRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Every point: the codes and the running maximum -/

/-- One column tile of codes: the tile of `x` widened, times the tile's row of inverse scales, clipped to [-448, 448], rounded. -/
def codeTile (x : Vec F S256x128 .bf16) (s : Vec F S1x1x128 .f32) : FVec F S256x128 .fp8e4m3 := k0_pay117 x s

/-- One column tile of the running maximum: the old one, and the maximum of the tile's absolute values over 16 groups of rows. -/
def accTile (x : Vec F S256x128 .bf16) (a : Vec F S16x128 .bf16) : FVec F S16x128 .bf16 := k0_pay118 x a

/-- Column tile `j` of the input block lies inside it. -/
theorem inbX (j : Fin 56) : ∀ a, (![0, 128 * j.val] : Fin 2 → ℕ) a + (![256, 128] : Fin 2 → ℕ) a ≤ S256x7168.size a := by
  revert j; decide

/-- Row `j` of the inverse-scale table lies inside it. -/
theorem inbI (j : Fin 56) : ∀ a, (![j.val / 28, j.val % 28, 0] : Fin 3 → ℕ) a + (![1, 1, 128] : Fin 3 → ℕ) a ≤ S2x32x128.size a := by
  revert j; decide

/-- Column tile `j` of the running maximum lies inside it. -/
theorem inbA (j : Fin 56) : ∀ a, (![0, 128 * j.val] : Fin 2 → ℕ) a + (![16, 128] : Fin 2 → ℕ) a ≤ S16x7168.size a := by
  revert j; decide

/-- Row `p` of a two-row block lies inside it. -/
theorem inbR (p : Fin 2) : ∀ a, (![p.val, 0] : Fin 2 → ℕ) a + (![1, 128] : Fin 2 → ℕ) a ≤ S2x128.size a := by
  revert p; decide

/-- Half `p` of the inverse-scale table lies inside it. -/
theorem inbV (p : Fin 2) : ∀ a, (![p.val, 0, 0] : Fin 3 → ℕ) a + (![1, 32, 128] : Fin 3 → ℕ) a ≤ S2x32x128.size a := by
  revert p; decide

/-- Column tile `j` of a block of `x`, and of the codes. -/
abbrev rX (j : Fin 56) : Rect S256x7168 := Rect.unit ![0, 128 * j.val] ![256, 128] (inbX j)

/-- The row of inverse scales that column tile `j` uses. -/
abbrev rI (j : Fin 56) : Rect S2x32x128 := Rect.unit ![j.val / 28, j.val % 28, 0] ![1, 1, 128] (inbI j)

/-- Column tile `j` of the running maximum. -/
abbrev rA (j : Fin 56) : Rect S16x7168 := Rect.unit ![0, 128 * j.val] ![16, 128] (inbA j)

/-- Row `p` of a result of 2 rows of 128. -/
abbrev rR (p : Fin 2) : Rect S2x128 := Rect.unit ![p.val, 0] ![1, 128] (inbR p)

/-- Half `p` of the inverse scales. -/
abbrev rV (p : Fin 2) : Rect S2x32x128 := Rect.unit ![p.val, 0, 0] ![1, 32, 128] (inbV p)

/-- The whole scales. -/
abbrev rS : Rect S2x128 := Rect.unit ![0, 0] ![2, 128] inb_S2x128_S2x128_0_0

/-- The whole history. -/
abbrev rH : Rect S256x1024 := Rect.unit ![0, 0] ![256, 1024] inb_S256x1024_S256x1024_0_0

/-- The whole step. -/
abbrev rT : Rect S1 := Rect.unit ![0] ![1] inb_S1_S1_0

/-- The codes of a block: tile `j` from column tile `j` of the block and its row of inverse scales. -/
def codePieces (x : S256x7168.Idx → Elt F .bf16) (s : (j : Fin 56) → Vec F S1x1x128 .f32) : List (View.Piece (Elt F) S256x7168 .fp8e4m3) :=
  (List.ofFn fun j : Fin 56 => ⟨rX j, codeTile (View.ld x (rX j)) (s j)⟩).reverse

/-- The running maximum after a block. -/
def accPieces (x : S256x7168.Idx → Elt F .bf16) (a : S16x7168.Idx → Elt F .bf16) : List (View.Piece (Elt F) S16x7168 .bf16) :=
  (List.ofFn fun j : Fin 56 => ⟨rA j, accTile (View.ld x (rX j)) (View.ld a (rA j))⟩).reverse

/-! ## The first point: the inverse scales, the history's maximum, the cleared running maximum -/

/-- The tensor of each place of 8 tile rows from row `m` on: (row · 128 + lane) / 28 rounded down, at most 127. -/
def tensorIx (m : BitVec 32) : IVec S8x128 32 :=
  have e : IVec S8x128 32 := addi (muli (addi (broadcast S8x128 m) (iota .tc S8x128 32 [0] iota_S8x128_d0_w32)) (broadcast S8x128 128#32)) (iota .tc S8x128 32 [1] iota_S8x128_d1_w32)
  have q : IVec S8x128 32 := divsi e (broadcast S8x128 28#32)
  have sgn : IVec S8x128 32 := subi (extui 32 (cmpi .sgt e (broadcast S8x128 0#32)) natLt_1_32) (extui 32 (cmpi .slt e (broadcast S8x128 0#32)) natLt_1_32)
  have sgw : BitVec 32 := Scalar.subi (Scalar.extui (Scalar.cmpi .sgt 28#32 0#32)) (Scalar.extui (Scalar.cmpi .slt 28#32 0#32))
  have inexact : IVec S8x128 1 := andi (cmpi .ne sgn (broadcast S8x128 sgw)) (cmpi .ne (remsi e (broadcast S8x128 28#32)) (broadcast S8x128 0#32))
  have t : IVec S8x128 32 := minsi (select inexact (subi q (broadcast S8x128 1#32)) q) (broadcast S8x128 127#32)
  select (cmpi .slt t (broadcast S8x128 0#32)) (addi t (broadcast S8x128 128#32)) t

/-- 8 rows of inverse scales, picked by tensor out of one row of inverse scales. -/
def gather8 (src : FVec F S8x128 .f32) (m : BitVec 32) : FVec F S8x128 .f32 :=
  dynamicGather 1 src (shapeCast S8x128 (shapeCast S8x128x1 (tensorIx m) shapeCasts_S8x128_S8x128x1) shapeCasts_S8x128x1_S8x128)

/-- The 32 rows of inverse scales of one half, from 8 copies of its row of inverse scales. -/
def invHalf (src : FVec F S8x128 .f32) : FVec F S1x32x128 .f32 :=
  shapeCast S1x32x128 (concatenate S32x128 0 [⟨S8x128, gather8 src 0#32⟩, ⟨S8x128, gather8 src 8#32⟩, ⟨S8x128, gather8 src 16#32⟩, ⟨S8x128, gather8 src 24#32⟩] concatenates_S8x128_S8x128_S8x128_S8x128_S32x128_d0) shapeCasts_S32x128_S1x32x128

/-- The inverse scales, stored half by half. -/
def invPieces (sc : Vec F S2x128 .f32) : List (View.Piece (Elt F) S2x32x128 .f32) :=
  [⟨rV 1, invHalf (k0_pay14 (k0_pay4 sc))⟩, ⟨rV 0, invHalf (k0_pay5 sc)⟩]

/-- The maximum of the history without the step's column, stored half by half. -/
def hmaxPieces (st : Elt F .i32) (h : Vec F S256x1024 .f32) : List (View.Piece (Elt F) S2x128 .f32) :=
  [⟨rR 1, k0_pay115 (k0_pay32 st) h⟩, ⟨rR 0, k0_pay114 (k0_pay32 st) h⟩]

/-- The store of tile `j` of the running maximum after the stores `L`: the tile combined with what it holds. -/
def accCons (v : View sig .tc .vmem S16x7168 .bf16) (x : S256x7168.Idx → Elt F .bf16) (j : Fin 56) (L : List (View.Piece (Elt F) S16x7168 .bf16)) :
    List (View.Piece (Elt F) S16x7168 .bf16) :=
  ⟨rA j, accTile (View.ld x (rX j)) (v.readCov L (rA j).toLoadRect)⟩ :: L

/-- The running maximum's stores of `n` tiles from tile `a` on, after the stores `L`. -/
def accMore (v : View sig .tc .vmem S16x7168 .bf16) (x : S256x7168.Idx → Elt F .bf16) (L : List (View.Piece (Elt F) S16x7168 .bf16)) (a : ℕ) :
    (n : ℕ) → a + n ≤ 56 → List (View.Piece (Elt F) S16x7168 .bf16)
  | 0, _ => L
  | n + 1, h => accCons v x ⟨a + n, h⟩ (accMore v x L a n (Nat.le_of_succ_le h))

/-- The running maximum cleared whole. -/
def accClear : List (View.Piece (Elt F) S16x7168 .bf16) := [⟨Rect.unit ![0, 0] ![16, 7168] inb_S16x7168_S16x7168_0_0, k0_pay31⟩]

/-- Tiles `a … a + m + n - 1` are tiles `a … a + m - 1` and then the rest. -/
theorem accMore_add (v : View sig .tc .vmem S16x7168 .bf16) (x : S256x7168.Idx → Elt F .bf16) (L : List (View.Piece (Elt F) S16x7168 .bf16)) (m : ℕ) (hm : 0 + m ≤ 56) :
    ∀ (n : ℕ) (h : m + n ≤ 56) (h' : 0 + (m + n) ≤ 56), accMore v x (accMore v x L 0 m hm) m n h = accMore v x L 0 (m + n) h' := by
  intro n
  induction n with
  | zero => intro h h'; rfl
  | succ n ih =>
    intro h h'
    show accCons v x _ _ = accCons v x _ _
    have e : (⟨m + n, h⟩ : Fin 56) = ⟨0 + (m + n), h'⟩ := Fin.ext (Nat.zero_add _).symm
    rw [ih (Nat.le_of_succ_le h) (Nat.le_of_succ_le h'), e]; rfl

/-! ## The last point: the maxima of the tensors and the new scales -/

/-- Each place's value `s` columns ahead, reading a half's 32 tile rows as one run of columns. -/
def ahead (s : BitVec 32) (k : BitVec 32) (v : FVec F S32x128 .f32) : FVec F S32x128 .f32 :=
  select (cmpi .slt (iota .tc S32x128 32 [1] iota_S32x128_d1_w32) (broadcast S32x128 k)) (dynamicRotate 1 s none v rotates_S32x128_d1)
    (dynamicRotate 0 31#32 none (dynamicRotate 1 s none v rotates_S32x128_d1) rotates_S32x128_d0)

/-- The maximum of a run of columns and of the run starting so many columns ahead of it. -/
def widen (s : BitVec 32) (v : FVec F S32x128 .f32) : FVec F S32x128 .f32 := maximumf v (ahead s s v)

/-- 28 times the lane: the first column of each tensor. -/
def startIx : IVec S32x128 32 := muli (iota .tc S32x128 32 [1] iota_S32x128_d1_w32) (broadcast S32x128 28#32)

/-- The lane of each tensor's first column. -/
def startLane : IVec S32x128 32 :=
  have w : BitVec 32 := Scalar.select (Scalar.cmpi .eq 128#32 0#32) 1#32 128#32
  have r : IVec S32x128 32 := remsi startIx (broadcast S32x128 w)
  have neg : IVec S32x128 1 := xori (cmpi .slt r (broadcast S32x128 0#32)) (broadcastTo S32x128 (broadcast S32x128 (Scalar.cmpi .slt w 0#32)) broadcasts_S32x128_S32x128)
  have l : IVec S32x128 32 := select (andi neg (cmpi .ne r (broadcast S32x128 0#32))) (addi r (broadcast S32x128 w)) r
  select (cmpi .slt l (broadcast S32x128 0#32)) (addi l (broadcast S32x128 128#32)) l

/-- Whether a place's row is the tile row of its lane's tensor's first column. -/
def startRow : IVec S32x128 1 :=
  have q : IVec S32x128 32 := divsi startIx (broadcast S32x128 128#32)
  have sgn : IVec S32x128 32 := subi (extui 32 (cmpi .sgt startIx (broadcast S32x128 0#32)) natLt_1_32) (extui 32 (cmpi .slt startIx (broadcast S32x128 0#32)) natLt_1_32)
  have inexact : IVec S32x128 1 := andi (cmpi .ne sgn (broadcast S32x128 1#32)) (cmpi .ne (remsi startIx (broadcast S32x128 128#32)) (broadcast S32x128 0#32))
  cmpi .eq (iota .tc S32x128 32 [0] iota_S32x128_d0_w32) (select inexact (subi q (broadcast S32x128 1#32)) q)

/-- The maximum of each tensor's 28 columns, one lane a tensor, out of a half's tile rows. -/
def segMax (w : FVec F S32x128 .f32) : FVec F S1x128 .f32 :=
  have win : FVec F S32x128 .f32 := widen 116#32 (widen 120#32 (widen 124#32 (widen 126#32 (widen 127#32 w))))
  have picked : FVec F S32x128 .f32 := dynamicGather 1 win (shapeCast S32x128 (shapeCast S32x128x1 startLane shapeCasts_S32x128_S32x128x1) shapeCasts_S32x128x1_S32x128)
  shapeCast S1x128 (multiReduction .maximumf [0] S128 (select startRow picked (broadcast S32x128 (Scalar.ofBits .f32 0x00000000#32))) 0xFF800000#32 reduces_S32x128_S128 (.inl rfl) rfl) shapeCasts_S128_S1x128

/-- A half's tile rows: the maximum over the 16 rows of each of 28 column tiles, and 4 rows of zero. -/
def tileRows (t : Fin 28 → Vec F S16x128 .bf16) : FVec F S32x128 .f32 :=
  concatenate S32x128 0 [⟨S1x128, k0_pay33 (t 0)⟩, ⟨S1x128, k0_pay33 (t 1)⟩, ⟨S1x128, k0_pay33 (t 2)⟩, ⟨S1x128, k0_pay33 (t 3)⟩, ⟨S1x128, k0_pay33 (t 4)⟩, ⟨S1x128, k0_pay33 (t 5)⟩, ⟨S1x128, k0_pay33 (t 6)⟩, ⟨S1x128, k0_pay33 (t 7)⟩, ⟨S1x128, k0_pay33 (t 8)⟩, ⟨S1x128, k0_pay33 (t 9)⟩, ⟨S1x128, k0_pay33 (t 10)⟩, ⟨S1x128, k0_pay33 (t 11)⟩, ⟨S1x128, k0_pay33 (t 12)⟩, ⟨S1x128, k0_pay33 (t 13)⟩, ⟨S1x128, k0_pay33 (t 14)⟩, ⟨S1x128, k0_pay33 (t 15)⟩, ⟨S1x128, k0_pay33 (t 16)⟩, ⟨S1x128, k0_pay33 (t 17)⟩, ⟨S1x128, k0_pay33 (t 18)⟩, ⟨S1x128, k0_pay33 (t 19)⟩, ⟨S1x128, k0_pay33 (t 20)⟩, ⟨S1x128, k0_pay33 (t 21)⟩, ⟨S1x128, k0_pay33 (t 22)⟩, ⟨S1x128, k0_pay33 (t 23)⟩, ⟨S1x128, k0_pay33 (t 24)⟩, ⟨S1x128, k0_pay33 (t 25)⟩, ⟨S1x128, k0_pay33 (t 26)⟩, ⟨S1x128, k0_pay33 (t 27)⟩, ⟨S1x128, broadcast S1x128 (Scalar.ofBits .f32 0x00000000#32)⟩, ⟨S1x128, broadcast S1x128 (Scalar.ofBits .f32 0x00000000#32)⟩, ⟨S1x128, broadcast S1x128 (Scalar.ofBits .f32 0x00000000#32)⟩, ⟨S1x128, broadcast S1x128 (Scalar.ofBits .f32 0x00000000#32)⟩] concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- The maxima of a half's 128 tensors. -/
def amaxHalf (t : Fin 28 → Vec F S16x128 .bf16) : FVec F S1x128 .f32 := segMax (tileRows t)

/-- One bit of the search for the exponent: set where the value is still at least that power of two. -/
def expBit (y : FVec F S1x128 .f32) (b : BitVec 32) (e : IVec S1x128 32) : IVec S1x128 32 :=
  have more : IVec S1x128 32 := addi e (broadcast S1x128 b)
  select (cmpf .oge y (bitcastToFloat .f32 (shli more (broadcast S1x128 23#32)))) more e

/-- The exponent field of a value, found bit by bit. -/
def expOf (y : FVec F S1x128 .f32) : IVec S1x128 32 :=
  expBit y 1#32 (expBit y 2#32 (expBit y 4#32 (expBit y 8#32 (expBit y 16#32 (expBit y 32#32 (expBit y 64#32 (expBit y 128#32 (broadcast S1x128 0#32))))))))

/-- The new scales of 128 tensors, from the greatest absolute value of each. -/
def pow2Row (a : FVec F S1x128 .f32) : FVec F S1x128 .f32 :=
  have e : IVec S1x128 32 := expOf (mulf a (broadcast S1x128 (Scalar.ofBits .f32 0x3B124925#32)))
  select (ori (ori (cmpf .oeq a (broadcast S1x128 (Scalar.ofBits .f32 0x00000000#32))) (cmpi .eq e (broadcast S1x128 0#32))) (cmpi .eq e (broadcast S1x128 255#32)))
    (broadcast S1x128 (Scalar.ofBits .f32 0x3F800000#32)) (bitcastToFloat .f32 (shli (addi e (broadcast S1x128 1#32)) (broadcast S1x128 23#32)))

/-- Tile `k` of half `p` is one of the 56 tiles. -/
theorem inbH (p : Fin 2) (k : Fin 28) : 28 * p.val + k.val < 56 := by omega

/-- The running maximum's column tiles of half `p`, as a load finds them after the stores `L`. -/
def accLoads (v : View sig .tc .vmem S16x7168 .bf16) (L : List (View.Piece (Elt F) S16x7168 .bf16)) (p : Fin 2) (k : Fin 28) : Vec F S16x128 .bf16 :=
  v.readCov L (rA ⟨28 * p.val + k.val, inbH p k⟩).toLoadRect

/-- The maxima, stored half by half. -/
def amaxPieces (t : Fin 2 → Fin 28 → Vec F S16x128 .bf16) : List (View.Piece (Elt F) S2x128 .f32) :=
  [⟨rR 1, amaxHalf (t 1)⟩, ⟨rR 0, amaxHalf (t 0)⟩]

/-- The new scales, stored half by half. -/
def scalePieces (t : Fin 2 → Fin 28 → Vec F S16x128 .bf16) (h : S2x128.Idx → Elt F .f32) : List (View.Piece (Elt F) S2x128 .f32) :=
  [⟨rR 1, pow2Row (maximumf (amaxHalf (t 1)) (View.ld h (rR 1)))⟩, ⟨rR 0, pow2Row (maximumf (amaxHalf (t 0)) (View.ld h (rR 0)))⟩]

end Cert.KernelIdeal.Gen
-- ==== Proof.KFound.lean ====
/- The found pieces of the three kinds of point are the plain families of tiles. -/
module

public import proofs.«01_k».proof.Proof.KTiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The first point's running maximum after 14 tiles, from 0 tiles. -/
theorem accA_14 (c : Dev nD) (arg2 : Memref sig .tc .vmem S256x7168 .bf16) (harg2 : arg2.IsWhole) (arg10 : Memref sig .tc .vmem S16x7168 .bf16) (x1 : Vec F S256x7168 .bf16) : kRunA.sl.H9_15 c arg2 harg2 arg10 x1 = accMore arg10.view (arg2.view.read (Elt F) (harg2.unread x1)) ((accClear (F := F))) 0 14 (by decide) := by
  sl_kernel_rfl

/-- The first point's running maximum after 28 tiles, from 14 tiles. -/
theorem accA_28 (c : Dev nD) (arg2 : Memref sig .tc .vmem S256x7168 .bf16) (harg2 : arg2.IsWhole) (arg10 : Memref sig .tc .vmem S16x7168 .bf16) (x1 : Vec F S256x7168 .bf16) : kRunA.sl.H9_29 c arg2 harg2 arg10 x1 = accMore arg10.view (arg2.view.read (Elt F) (harg2.unread x1)) (kRunA.sl.H9_15 c arg2 harg2 arg10 x1) 14 14 (by decide) := by
  sl_kernel_rfl

/-- The first point's running maximum after 42 tiles, from 28 tiles. -/
theorem accA_42 (c : Dev nD) (arg2 : Memref sig .tc .vmem S256x7168 .bf16) (harg2 : arg2.IsWhole) (arg10 : Memref sig .tc .vmem S16x7168 .bf16) (x1 : Vec F S256x7168 .bf16) : kRunA.sl.H9_43 c arg2 harg2 arg10 x1 = accMore arg10.view (arg2.view.read (Elt F) (harg2.unread x1)) (kRunA.sl.H9_29 c arg2 harg2 arg10 x1) 28 14 (by decide) := by
  sl_kernel_rfl

section A
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : cond0_0 i) (hc1 : ¬cond0_1 i)
    (x0 : Vec F S1 .i32) (x1 : Vec F S256x7168 .bf16) (x2 : Vec F S256x1024 .f32) (x3 : Vec F S2x128 .f32)

/-- At the first point the found pieces of the codes are the tiles named above. -/
theorem codesA : (kRunA c i arg1 harg1 arg2 harg2 arg3 harg3 arg4 harg4 arg5 harg5 arg6 harg6 arg7 harg7 arg8 harg8 arg9 harg9 arg10 harg10 arg11 harg11 hc0 hc1 x0 x1 x2 x3).1
    = codePieces (arg2.view.read (Elt F) (harg2.unread x1)) (fun j => arg9.view.readCov (invPieces (View.ld (arg4.view.read (Elt F) (harg4.unread x3)) rS)) (rI j).toLoadRect) := by
  sl_kernel_rfl

/-- At the first point the scales in use are stored whole. -/
theorem usedA : (kRunA c i arg1 harg1 arg2 harg2 arg3 harg3 arg4 harg4 arg5 harg5 arg6 harg6 arg7 harg7 arg8 harg8 arg9 harg9 arg10 harg10 arg11 harg11 hc0 hc1 x0 x1 x2 x3).2.1
    = [⟨Rect.unit ![0, 0] ![2, 128] inb_S2x128_S2x128_0_0, k0_pay3 (View.ld (arg4.view.read (Elt F) (harg4.unread x3)) rS)⟩] := by
  sl_kernel_rfl

/-- At the first point the found pieces of the inverse scales are the ones named above. -/
theorem invA : (kRunA c i arg1 harg1 arg2 harg2 arg3 harg3 arg4 harg4 arg5 harg5 arg6 harg6 arg7 harg7 arg8 harg8 arg9 harg9 arg10 harg10 arg11 harg11 hc0 hc1 x0 x1 x2 x3).2.2.1
    = invPieces (View.ld (arg4.view.read (Elt F) (harg4.unread x3)) rS) := by
  sl_kernel_rfl

/-- At the first point the found pieces of the history maximum are the ones named above. -/
theorem hmaxA : (kRunA c i arg1 harg1 arg2 harg2 arg3 harg3 arg4 harg4 arg5 harg5 arg6 harg6 arg7 harg7 arg8 harg8 arg9 harg9 arg10 harg10 arg11 harg11 hc0 hc1 x0 x1 x2 x3).2.2.2.2.1
    = hmaxPieces (View.ld (arg1.view.read (Elt F) (harg1.unread x0)) rT (Shape.Idx.first (by decide))) (View.ld (arg3.view.read (Elt F) (harg3.unread x2)) rH) := by
  sl_kernel_rfl
end A

section A
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : cond0_0 i) (hc1 : ¬cond0_1 i)
    (x0 : Vec F S1 .i32) (x1 : Vec F S256x7168 .bf16) (x2 : Vec F S256x1024 .f32) (x3 : Vec F S2x128 .f32)

/-- The first point's running maximum after all 56 tiles, from 42 tiles. -/
theorem accA_56 : (kRunA c i arg1 harg1 arg2 harg2 arg3 harg3 arg4 harg4 arg5 harg5 arg6 harg6 arg7 harg7 arg8 harg8 arg9 harg9 arg10 harg10 arg11 harg11 hc0 hc1 x0 x1 x2 x3).2.2.2.1
    = accMore arg10.view (arg2.view.read (Elt F) (harg2.unread x1)) (kRunA.sl.H9_43 c arg2 harg2 arg10 x1) 42 14 (by decide) := by
  sl_kernel_rfl

/-- At the first point the found pieces of the running maximum are the ones named above. -/
theorem accA : (kRunA c i arg1 harg1 arg2 harg2 arg3 harg3 arg4 harg4 arg5 harg5 arg6 harg6 arg7 harg7 arg8 harg8 arg9 harg9 arg10 harg10 arg11 harg11 hc0 hc1 x0 x1 x2 x3).2.2.2.1
    = accMore arg10.view (arg2.view.read (Elt F) (harg2.unread x1)) accClear 0 56 (by decide) := by
  rw [accA_56, accA_42, accA_28, accA_14, accMore_add _ _ _ 14 (by decide) 14 (by decide) (by decide), accMore_add _ _ _ 28 (by decide) 14 (by decide) (by decide),
    accMore_add _ _ _ 42 (by decide) 14 (by decide) (by decide)]
end A

section B
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : ¬cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32)

/-- At a middle point the found pieces of the codes are the tiles named above. -/
theorem codesB : (kRunB c i arg1 harg1 arg2 harg2 arg3 harg3 arg4 harg4 arg5 harg5 arg6 harg6 arg7 harg7 arg8 harg8 arg9 harg9 arg10 harg10 arg11 harg11 hc0 hc1 x0 x1 x2 x3 xs0 xs1 xs2).1
    = codePieces (arg2.view.read (Elt F) (harg2.unread x1)) (fun j => View.ld (arg9.view.read (Elt F) (harg9.unread xs0)) (rI j)) := by
  sl_kernel_rfl

/-- At a middle point the found pieces of the running maximum are the tiles named above. -/
theorem accB : (kRunB c i arg1 harg1 arg2 harg2 arg3 harg3 arg4 harg4 arg5 harg5 arg6 harg6 arg7 harg7 arg8 harg8 arg9 harg9 arg10 harg10 arg11 harg11 hc0 hc1 x0 x1 x2 x3 xs0 xs1 xs2).2.1
    = accPieces (arg2.view.read (Elt F) (harg2.unread x1)) (arg10.view.read (Elt F) (harg10.unread xs1)) := by
  sl_kernel_rfl
end B

section C
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32)

/-- At the last point the found pieces of the codes are the tiles named above. -/
theorem codesC : (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).1
    = codePieces (arg2.view.read (Elt F) (harg2.unread x1)) (fun j => View.ld (arg9.view.read (Elt F) (harg9.unread xs0)) (rI j)) := by
  sl_kernel_rfl

/-- At the last point the found pieces of the maxima are the ones named above. -/
theorem amaxC : (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.1
    = amaxPieces (accLoads arg10.view (accPieces (arg2.view.read (Elt F) (harg2.unread x1)) (arg10.view.read (Elt F) (harg10.unread xs1)))) := by
  sl_kernel_rfl

/-- At the last point the found pieces of the new scales are the ones named above. -/
theorem scaleC : (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.1
    = scalePieces (accLoads arg10.view (accPieces (arg2.view.read (Elt F) (harg2.unread x1)) (arg10.view.read (Elt F) (harg10.unread xs1)))) (arg11.view.read (Elt F) (harg11.unread xs2)) := by
  sl_kernel_rfl

/-- At the last point the found pieces of the running maximum are the tiles named above. -/
theorem accC : (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.1
    = accPieces (arg2.view.read (Elt F) (harg2.unread x1)) (arg10.view.read (Elt F) (harg10.unread xs1)) := by
  sl_kernel_rfl
end C

end Cert.KernelIdeal.Gen
-- ==== Proof.KCont.lean ====
/- What each buffer holds after the kernel body, as a function of what the buffers held before: the pieces read back. -/
module

public import proofs.«01_k».proof.Proof.KFound
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

/-- The codes of a block, from the block and the inverse scales. -/
def codesOf (x : S256x7168.Idx → Elt F .bf16) (s : S2x32x128.Idx → Elt F .f32) : S256x7168.Idx → Elt F .fp8e4m3 :=
  canon (codePieces x (fun j => View.ld s (rI j)))

/-- The running maximum after a block, from the block and the running maximum before it. -/
def accStep (x : S256x7168.Idx → Elt F .bf16) (a : S16x7168.Idx → Elt F .bf16) : S16x7168.Idx → Elt F .bf16 := canon (accPieces x a)

/-- The inverse scales of the columns. -/
def invOf (sc : Vec F S2x128 .f32) : S2x32x128.Idx → Elt F .f32 := canon (invPieces sc)

/-- The maximum of each tensor's history without the step's column. -/
def hmaxOf (st : Elt F .i32) (h : Vec F S256x1024 .f32) : S2x128.Idx → Elt F .f32 := canon (hmaxPieces st h)

/-- Half `p`'s column tiles of the running maximum. -/
def halfTiles (a : S16x7168.Idx → Elt F .bf16) (p : Fin 2) (k : Fin 28) : Vec F S16x128 .bf16 :=
  View.ld a (rA ⟨28 * p.val + k.val, inbH p k⟩)

/-- The maxima of the tensors, from the running maximum. -/
def amaxOf (a : S16x7168.Idx → Elt F .bf16) : S2x128.Idx → Elt F .f32 := canon (amaxPieces (halfTiles a))

/-- The new scales, from the running maximum and the history's maximum. -/
def newScaleOf (a : S16x7168.Idx → Elt F .bf16) (h : S2x128.Idx → Elt F .f32) : S2x128.Idx → Elt F .f32 := canon (scalePieces (halfTiles a) h)

/-! ## The pieces cover their buffers -/

/-- The code tiles cover the code block. -/
theorem cover_codes (x : S256x7168.Idx → Elt F .bf16) (s : (j : Fin 56) → Vec F S1x1x128 .f32) : ∀ y, ∃ p ∈ codePieces x s, y ∈ p.1.set :=
  View.cover_of_tiledL _ ![256, 128] (by sl_kernel_rfl)

/-- The tiles of the running maximum cover it. -/
theorem cover_acc (x : S256x7168.Idx → Elt F .bf16) (a : S16x7168.Idx → Elt F .bf16) : ∀ y, ∃ p ∈ accPieces x a, y ∈ p.1.set :=
  View.cover_of_tiledL _ ![16, 128] (by sl_kernel_rfl)

/-- The tiles of the inverse scales cover their table. -/
theorem cover_inv (sc : Vec F S2x128 .f32) : ∀ y, ∃ p ∈ invPieces sc, y ∈ p.1.set :=
  View.cover_of_tiledL _ ![1, 32, 128] (by sl_kernel_rfl)

/-- The two rows of the history's maximum cover its buffer. -/
theorem cover_hmax (st : Elt F .i32) (h : Vec F S256x1024 .f32) : ∀ y, ∃ p ∈ hmaxPieces st h, y ∈ p.1.set :=
  View.cover_of_tiledL _ ![1, 128] (by sl_kernel_rfl)

/-- The two rows of the maxima cover their block. -/
theorem cover_amax (t : Fin 2 → Fin 28 → Vec F S16x128 .bf16) : ∀ y, ∃ p ∈ amaxPieces t, y ∈ p.1.set :=
  View.cover_of_tiledL _ ![1, 128] (by sl_kernel_rfl)

/-- The two rows of the new scales cover their block. -/
theorem cover_scale (t : Fin 2 → Fin 28 → Vec F S16x128 .bf16) (h : S2x128.Idx → Elt F .f32) : ∀ y, ∃ p ∈ scalePieces t h, y ∈ p.1.set :=
  View.cover_of_tiledL _ ![1, 128] (by sl_kernel_rfl)

/-- The clearing store covers the running maximum. -/
theorem cover_clear : ∀ y, ∃ p ∈ accClear (F := F), y ∈ p.1.set :=
  View.cover_of_tiledL _ ![16, 7168] (by sl_kernel_rfl)

/-- The tiles stored after the clearing store, with it, cover the running maximum. -/
theorem cover_more (v : View sig .tc .vmem S16x7168 .bf16) (x : S256x7168.Idx → Elt F .bf16) :
    ∀ (n : ℕ) (h : 0 + n ≤ 56), ∀ y, ∃ p ∈ accMore v x accClear 0 n h, y ∈ p.1.set
  | 0, _, y => cover_clear y
  | n + 1, h, y => by
    obtain ⟨p, hp, hy⟩ := cover_more v x n (Nat.le_of_succ_le h) y
    exact ⟨p, List.mem_cons_of_mem _ hp, hy⟩

/-- A load of stores that cover their buffer reads their canonical contents. -/
theorem readCov_eq_ld {S : Shape} {e : EltTy} (v : View sig .tc .vmem S e) (L : List (View.Piece (Elt F) S e)) (h : ∀ y, ∃ p ∈ L, y ∈ p.1.set)
    (r : Rect S) : v.readCov L r.toLoadRect = View.ld (canon L) r := by
  rw [← View.read_writes_eq_canon v v.junk L h]; rfl

/-! ## The running maximum of the first point -/

/-- The running maximum after a block, at a column tile. -/
theorem accStep_emb (x : S256x7168.Idx → Elt F .bf16) (a : S16x7168.Idx → Elt F .bf16) (j : Fin 56) (z : (rA j).shape.Idx) :
    accStep x a ((rA j).emb z) = accTile (View.ld x (rX j)) (View.ld a (rA j)) z := by
  refine View.canon_eq_of_allAt _ _ _ (cover_acc x a _) ?_
  intro p hp
  obtain ⟨k, rfl⟩ := List.mem_ofFn.mp (List.mem_reverse.mp hp)
  intro w hw
  have hc := congrArg (fun y : S16x7168.Idx => (y 1).val) hw
  have h1 : 128 * k.val + 1 * (w 1).val = 128 * j.val + 1 * (z 1).val := hc
  have b1 : (w 1).val < 128 := (w 1).isLt
  have b2 : (z 1).val < 128 := (z 1).isLt
  have hk : k = j := Fin.ext (by omega)
  subst hk
  rw [(rA k).emb.injective hw]

/-- The column at which an element of column tile `j` lies. -/
theorem rA_emb (j : Fin 56) (z : (rA j).shape.Idx) : ((rA j).emb z 1).val = 128 * j.val + (z 1).val := by
  show 128 * j.val + 1 * (z 1).val = _
  omega

/-- A place whose column lies in column tile `j` belongs to that tile. -/
theorem mem_rA (j : Fin 56) (y : S16x7168.Idx) (h : 128 * j.val ≤ (y 1).val) (h' : (y 1).val < 128 * j.val + 128) : y ∈ (rA j).set := by
  refine Rect.mem_set_unit.mpr fun a => ?_
  have h0 : (y 0).val < 16 := (y 0).isLt
  match a with
  | ⟨0, _⟩ => exact ⟨Nat.zero_le _, by show (y 0).val < 0 + 16; omega⟩
  | ⟨1, _⟩ => exact ⟨h, h'⟩

/-- The tile just stored reads as the tile combined with what the earlier stores left. -/
theorem canon_accCons (v : View sig .tc .vmem S16x7168 .bf16) (x : S256x7168.Idx → Elt F .bf16) (j : Fin 56) (L : List (View.Piece (Elt F) S16x7168 .bf16))
    (hL : ∀ y, ∃ p ∈ L, y ∈ p.1.set) (z : (rA j).shape.Idx) :
    canon (accCons v x j L) ((rA j).emb z) = accTile (View.ld x (rX j)) (View.ld (canon L) (rA j)) z := by
  unfold accCons
  rw [View.canon_cons_emb, readCov_eq_ld v L hL]

/-- Outside column tile `j`, storing that tile changes nothing. -/
theorem canon_accCons_of_not_mem (v : View sig .tc .vmem S16x7168 .bf16) (x : S256x7168.Idx → Elt F .bf16) (j : Fin 56) (L : List (View.Piece (Elt F) S16x7168 .bf16))
    (y : S16x7168.Idx) (hy : y ∉ (rA j).set) : canon (accCons v x j L) y = canon L y :=
  View.canon_cons_of_not_mem _ _ hy

/-- The clearing store leaves the cleared block. -/
theorem canon_clear : canon (accClear (F := F)) = k0_pay31 := by
  funext y
  have e : ∀ z : (Rect.unit (s := S16x7168) ![0, 0] ![16, 7168] inb_S16x7168_S16x7168_0_0).shape.Idx, (Rect.unit (s := S16x7168) ![0, 0] ![16, 7168] inb_S16x7168_S16x7168_0_0).emb z = z := by
    intro z; funext a; apply Fin.ext
    show (![0, 0] : Fin 2 → ℕ) a + 1 * (z a).val = (z a).val
    fin_cases a <;> simp
  have := View.canon_cons_emb (Val := Elt F) (e := EltTy.bf16) (Rect.unit (s := S16x7168) ![0, 0] ![16, 7168] inb_S16x7168_S16x7168_0_0) (k0_pay31 (F := F)) [] y
  rw [e] at this
  exact this

/-- At the first point the running maximum after `n` tiles is one step from the cleared one there, and cleared elsewhere. -/
theorem canon_more (v : View sig .tc .vmem S16x7168 .bf16) (x : S256x7168.Idx → Elt F .bf16) :
    ∀ (n : ℕ) (h : 0 + n ≤ 56) (y : S16x7168.Idx),
      canon (accMore v x accClear 0 n h) y = if (y 1).val < 128 * n then accStep x k0_pay31 y else k0_pay31 y
  | 0, _, y => by
    rw [if_neg (by omega)]
    exact congrFun canon_clear y
  | n + 1, h, y => by
    have ih := canon_more v x n (Nat.le_of_succ_le h)
    obtain ⟨j, hj⟩ : ∃ j : Fin 56, j = ⟨0 + n, h⟩ := ⟨_, rfl⟩
    have hn : j.val = n := by rw [hj]; exact Nat.zero_add n
    have hc := cover_more v x n (Nat.le_of_succ_le h)
    rw [show accMore v x accClear 0 (n + 1) h = accCons v x j (accMore v x accClear 0 n (Nat.le_of_succ_le h)) from by rw [hj]; rfl]
    generalize accMore v x accClear 0 n (Nat.le_of_succ_le h) = L at ih hc ⊢
    by_cases hy : y ∈ (rA j).set
    · obtain ⟨z, hz⟩ := (rA j).exists_idx_of_mem hy
      have hz' : (rA j).emb z = y := hz
      rw [← hz', canon_accCons v x j L hc, rA_emb, if_pos (by have := (z 1).isLt; change (z 1).val < 128 at this; omega), accStep_emb]
      have e : View.ld (canon L) (rA j) = View.ld k0_pay31 (rA j) := by
        funext w
        show canon L ((rA j).emb w) = k0_pay31 ((rA j).emb w)
        rw [ih, rA_emb, if_neg (by omega)]
      rw [e]
    · rw [canon_accCons_of_not_mem v x j L y hy, ih]
      have hy' : ¬ (128 * j.val ≤ (y 1).val ∧ (y 1).val < 128 * j.val + 128) := fun hc => hy (mem_rA j y hc.1 hc.2)
      by_cases hlt : (y 1).val < 128 * n
      · rw [if_pos hlt, if_pos (by omega)]
      · rw [if_neg hlt, if_neg (by omega)]

/-- After the first point the running maximum is one step from the cleared one. -/
theorem canon_more_all (v : View sig .tc .vmem S16x7168 .bf16) (x : S256x7168.Idx → Elt F .bf16) (h : 0 + 56 ≤ 56) :
    canon (accMore v x accClear 0 56 h) = accStep x k0_pay31 := by
  funext y
  rw [canon_more, if_pos]
  exact (y 1).isLt

end Cert.KernelIdeal.Gen
-- ==== Proof.KEnds.lean ====
/- What each kind of point leaves in each buffer it writes, from what it finds. -/
module

public import proofs.«01_k».proof.Proof.KCont

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

/-- The scales in use, stored whole. -/
def usedOf (sc : Vec F S2x128 .f32) : S2x128.Idx → Elt F .f32 :=
  canon [⟨Rect.unit ![0, 0] ![2, 128] inb_S2x128_S2x128_0_0, k0_pay3 sc⟩]

/-- The one store of the scales in use covers their block. -/
theorem cover_used (sc : Vec F S2x128 .f32) : ∀ y, ∃ p ∈ ([⟨Rect.unit ![0, 0] ![2, 128] inb_S2x128_S2x128_0_0, k0_pay3 sc⟩] : List (View.Piece (Elt F) S2x128 .f32)), y ∈ p.1.set :=
  View.cover_of_tiledL _ ![2, 128] (by sl_kernel_rfl)

/-- The column tiles of the running maximum as the last point loads them back. -/
theorem accLoads_eq (v : View sig .tc .vmem S16x7168 .bf16) (x : S256x7168.Idx → Elt F .bf16) (a : S16x7168.Idx → Elt F .bf16) :
    accLoads v (accPieces x a) = halfTiles (accStep x a) := by
  funext p k
  unfold accLoads halfTiles accStep
  rw [readCov_eq_ld _ _ (cover_acc _ _)]

section A
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : cond0_0 i) (hc1 : ¬cond0_1 i)
    (x0 : Vec F S1 .i32) (x1 : Vec F S256x7168 .bf16) (x2 : Vec F S256x1024 .f32) (x3 : Vec F S2x128 .f32)

/-- What the first point leaves of the codes. -/
theorem endA_codes (f : Buf (Elt F) (arg5.view.loc (c : Thread nD τ))) : arg5.view.read (Elt F) (arg5.view.writes (Elt F) f (kRunA c i arg1 harg1 arg2 harg2 arg3 harg3 arg4 harg4 arg5 harg5 arg6 harg6 arg7 harg7 arg8 harg8 arg9 harg9 arg10 harg10 arg11 harg11 hc0 hc1 x0 x1 x2 x3).1)
    = codesOf x1 (invOf (View.ld x3 rS)) := by
  rw [codesA c i arg1 harg1 arg2 harg2 arg3 harg3 arg4 harg4 arg5 harg5 arg6 harg6 arg7 harg7 arg8 harg8 arg9 harg9 arg10 harg10 arg11 harg11 hc0 hc1 x0 x1 x2 x3, harg2.read_unread, harg4.read_unread, View.read_writes_eq_canon _ _ _ (cover_codes _ _)]
  unfold codesOf invOf
  simp only [readCov_eq_ld _ _ (cover_inv _)]

/-- What the first point leaves of the scales in use. -/
theorem endA_used (f : Buf (Elt F) (arg8.view.loc (c : Thread nD τ))) : arg8.view.read (Elt F) (arg8.view.writes (Elt F) f (kRunA c i arg1 harg1 arg2 harg2 arg3 harg3 arg4 harg4 arg5 harg5 arg6 harg6 arg7 harg7 arg8 harg8 arg9 harg9 arg10 harg10 arg11 harg11 hc0 hc1 x0 x1 x2 x3).2.1)
    = usedOf (View.ld x3 rS) := by
  rw [usedA c i arg1 harg1 arg2 harg2 arg3 harg3 arg4 harg4 arg5 harg5 arg6 harg6 arg7 harg7 arg8 harg8 arg9 harg9 arg10 harg10 arg11 harg11 hc0 hc1 x0 x1 x2 x3, harg4.read_unread, View.read_writes_eq_canon _ _ _ (cover_used _)]; rfl

/-- What the first point leaves of the inverse scales. -/
theorem endA_inv (f : Buf (Elt F) (arg9.view.loc (c : Thread nD τ))) : arg9.view.read (Elt F) (arg9.view.writes (Elt F) f (kRunA c i arg1 harg1 arg2 harg2 arg3 harg3 arg4 harg4 arg5 harg5 arg6 harg6 arg7 harg7 arg8 harg8 arg9 harg9 arg10 harg10 arg11 harg11 hc0 hc1 x0 x1 x2 x3).2.2.1)
    = invOf (View.ld x3 rS) := by
  rw [invA c i arg1 harg1 arg2 harg2 arg3 harg3 arg4 harg4 arg5 harg5 arg6 harg6 arg7 harg7 arg8 harg8 arg9 harg9 arg10 harg10 arg11 harg11 hc0 hc1 x0 x1 x2 x3, harg4.read_unread, View.read_writes_eq_canon _ _ _ (cover_inv _)]; rfl

/-- What the first point leaves of the running maximum. -/
theorem endA_acc (f : Buf (Elt F) (arg10.view.loc (c : Thread nD τ))) : arg10.view.read (Elt F) (arg10.view.writes (Elt F) f (kRunA c i arg1 harg1 arg2 harg2 arg3 harg3 arg4 harg4 arg5 harg5 arg6 harg6 arg7 harg7 arg8 harg8 arg9 harg9 arg10 harg10 arg11 harg11 hc0 hc1 x0 x1 x2 x3).2.2.2.1)
    = accStep x1 k0_pay31 := by
  rw [accA c i arg1 harg1 arg2 harg2 arg3 harg3 arg4 harg4 arg5 harg5 arg6 harg6 arg7 harg7 arg8 harg8 arg9 harg9 arg10 harg10 arg11 harg11 hc0 hc1 x0 x1 x2 x3, harg2.read_unread, View.read_writes_eq_canon _ _ _ (cover_more _ _ _ _), canon_more_all]

/-- What the first point leaves of the history maximum. -/
theorem endA_hmax (f : Buf (Elt F) (arg11.view.loc (c : Thread nD τ))) : arg11.view.read (Elt F) (arg11.view.writes (Elt F) f (kRunA c i arg1 harg1 arg2 harg2 arg3 harg3 arg4 harg4 arg5 harg5 arg6 harg6 arg7 harg7 arg8 harg8 arg9 harg9 arg10 harg10 arg11 harg11 hc0 hc1 x0 x1 x2 x3).2.2.2.2.1)
    = hmaxOf (View.ld x0 rT (Shape.Idx.first (by decide))) (View.ld x2 rH) := by
  rw [hmaxA c i arg1 harg1 arg2 harg2 arg3 harg3 arg4 harg4 arg5 harg5 arg6 harg6 arg7 harg7 arg8 harg8 arg9 harg9 arg10 harg10 arg11 harg11 hc0 hc1 x0 x1 x2 x3, harg1.read_unread, harg3.read_unread, View.read_writes_eq_canon _ _ _ (cover_hmax _ _)]; rfl
end A

section B
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : ¬cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32)

/-- What a middle point leaves of the codes. -/
theorem endB_codes (f : Buf (Elt F) (arg5.view.loc (c : Thread nD τ))) : arg5.view.read (Elt F) (arg5.view.writes (Elt F) f (kRunB c i arg1 harg1 arg2 harg2 arg3 harg3 arg4 harg4 arg5 harg5 arg6 harg6 arg7 harg7 arg8 harg8 arg9 harg9 arg10 harg10 arg11 harg11 hc0 hc1 x0 x1 x2 x3 xs0 xs1 xs2).1)
    = codesOf x1 xs0 := by
  rw [codesB c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg9.read_unread, View.read_writes_eq_canon _ _ _ (cover_codes _ _)]; rfl

/-- What a middle point leaves of the running maximum. -/
theorem endB_acc (f : Buf (Elt F) (arg10.view.loc (c : Thread nD τ))) : arg10.view.read (Elt F) (arg10.view.writes (Elt F) f (kRunB c i arg1 harg1 arg2 harg2 arg3 harg3 arg4 harg4 arg5 harg5 arg6 harg6 arg7 harg7 arg8 harg8 arg9 harg9 arg10 harg10 arg11 harg11 hc0 hc1 x0 x1 x2 x3 xs0 xs1 xs2).2.1)
    = accStep x1 xs1 := by
  rw [accB c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg10.read_unread, View.read_writes_eq_canon _ _ _ (cover_acc _ _)]; rfl
end B

section C
variable (c : Dev nD) (i : grid0.Coords) (arg1 : Memref sig .tc .smem S1 .i32) (harg1 : arg1.IsWhole) (arg2 : Memref sig .tc .vmem S256x7168 .bf16) (harg2 : arg2.IsWhole) (arg3 : Memref sig .tc .vmem S256x1024 .f32) (harg3 : arg3.IsWhole) (arg4 : Memref sig .tc .vmem S2x128 .f32) (harg4 : arg4.IsWhole) (arg5 : Memref sig .tc .vmem S256x7168 .fp8e4m3) (harg5 : arg5.IsWhole) (arg6 : Memref sig .tc .vmem S2x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x32x128 .f32) (harg9 : arg9.IsWhole) (arg10 : Memref sig .tc .vmem S16x7168 .bf16) (harg10 : arg10.IsWhole) (arg11 : Memref sig .tc .vmem S2x128 .f32) (harg11 : arg11.IsWhole) (hc0 : ¬cond0_0 i) (hc1 : cond0_1 i)
    (x0 : Vec F S1 .i32) (x1 : Vec F S256x7168 .bf16) (x2 : Vec F S256x1024 .f32) (x3 : Vec F S2x128 .f32) (xs0 : Vec F S2x32x128 .f32) (xs1 : Vec F S16x7168 .bf16) (xs2 : Vec F S2x128 .f32)

/-- What the last point leaves of the codes. -/
theorem endC_codes (f : Buf (Elt F) (arg5.view.loc (c : Thread nD τ))) : arg5.view.read (Elt F) (arg5.view.writes (Elt F) f (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).1)
    = codesOf x1 xs0 := by
  rw [codesC c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg9.read_unread, View.read_writes_eq_canon _ _ _ (cover_codes _ _)]; rfl

/-- What the last point leaves of the maxima. -/
theorem endC_amax (f : Buf (Elt F) (arg6.view.loc (c : Thread nD τ))) : arg6.view.read (Elt F) (arg6.view.writes (Elt F) f (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.1)
    = amaxOf (accStep x1 xs1) := by
  rw [amaxC c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg10.read_unread, View.read_writes_eq_canon _ _ _ (cover_amax _), accLoads_eq]; rfl

/-- What the last point leaves of the new scales. -/
theorem endC_scale (f : Buf (Elt F) (arg7.view.loc (c : Thread nD τ))) : arg7.view.read (Elt F) (arg7.view.writes (Elt F) f (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.1)
    = newScaleOf (accStep x1 xs1) xs2 := by
  rw [scaleC c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg10.read_unread, harg11.read_unread, View.read_writes_eq_canon _ _ _ (cover_scale _ _), accLoads_eq]; rfl

/-- What the last point leaves of the running maximum. -/
theorem endC_acc (f : Buf (Elt F) (arg10.view.loc (c : Thread nD τ))) : arg10.view.read (Elt F) (arg10.view.writes (Elt F) f (kRunC c i arg1 harg1 arg2 harg2 arg3 harg3 arg4 harg4 arg5 harg5 arg6 harg6 arg7 harg7 arg8 harg8 arg9 harg9 arg10 harg10 arg11 harg11 hc0 hc1 x0 x1 x2 x3 xs0 xs1 xs2).2.2.2.1)
    = accStep x1 xs1 := by
  rw [accC c i arg1 harg1 arg2 harg2 arg3 harg3 arg4 harg4 arg5 harg5 arg6 harg6 arg7 harg7 arg8 harg8 arg9 harg9 arg10 harg10 arg11 harg11 hc0 hc1 x0 x1 x2 x3 xs0 xs1 xs2, harg2.read_unread, harg10.read_unread, View.read_writes_eq_canon _ _ _ (cover_acc _ _)]; rfl
end C

end Cert.KernelIdeal.Gen
-- ==== Proof.KState.lean ====
/- What every buffer holds after each point of the grid, and what the body hands back window by window. -/
module

public import proofs.«01_k».proof.Proof.KEnds
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

local notation "𝕄" => MT nD τ sig Unit (Elt F) ℕ (UR sig nD τ) ℕ

variable (m : (ℓ : Loc nD τ sig) → Buf (Elt F) ℓ) (ρ : Dev nD → PrngReg)

/-! ## What the buffers hold -/

/-- The grid's first point. -/
abbrev pt0 : Fin cfg0.N := ⟨0, lt_of_lt_of_eq (by decide : 0 < 64) N_0.symm⟩

/-- The grid's last point. -/
abbrev pt63 : Fin cfg0.N := ⟨63, lt_of_lt_of_eq (by decide : 63 < 64) N_0.symm⟩

/-- The block of scales, as loaded. -/
def scaleV (c : Dev nD) : Vec F S2x128 .f32 := View.ld (iblk m c 3 pt0 : S2x128.Idx → Elt F .f32) rS

/-- The inverse scales of the columns, as the first point leaves them. -/
def invV (c : Dev nD) : S2x32x128.Idx → Elt F .f32 := invOf (scaleV m c)

/-- The history maximum, from the blocks of the step and of the history. -/
def hmaxB (x0 : S1.Idx → Elt F .i32) (x2 : S256x1024.Idx → Elt F .f32) : S2x128.Idx → Elt F .f32 :=
  hmaxOf (View.ld x0 rT (Shape.Idx.first (by decide))) (View.ld x2 rH)

/-- The history maximum, as the first point leaves it. -/
def hmaxV (c : Dev nD) : S2x128.Idx → Elt F .f32 :=
  hmaxB (iblk m c 0 pt0) (iblk m c 2 pt0)

/-- The running maximum after each point. -/
def accAt (c : Dev nD) : (n : ℕ) → n < cfg0.N → (S16x7168.Idx → Elt F .bf16)
  | 0, h => accStep (iblk m c 1 ⟨0, h⟩) k0_pay31
  | n + 1, h => accStep (iblk m c 1 ⟨n + 1, h⟩) (accAt c n (Nat.lt_of_succ_lt h))

/-- The region's invariant: before the first point every scratch buffer at anything; afterwards the inverse scales, the running maximum
    so far and the history maximum. -/
def PhiS (c : Dev nD) : (n : ℕ) → n ≤ cfg0.N → sProp 𝕄
  | 0, _ => Pipeline.ΦA spec0 c
  | n + 1, hn => iprop(iprop(owns (c : Thread nD τ) scM0_0 fullShare (invV m c) ∗ owns (c : Thread nD τ) scM0_1 fullShare (accAt m c n hn) ∗ owns (c : Thread nD τ) scM0_2 fullShare (hmaxV m c)) ∗ (∃ r, prngReg c r))

/-- Before the first point the scratch buffers hold anything. -/
theorem PhiS_zero (c : Dev nD) (n : ℕ) (h : n ≤ cfg0.N) (hz : n = 0) : PhiS m c n h = Pipeline.ΦA spec0 c := by
  subst hz; rfl

/-- After a point the scratch buffers hold the inverse scales, the running maximum and the history's maximum. -/
theorem PhiS_succ (c : Dev nD) (n : ℕ) (hn : n < cfg0.N) : PhiS m c (n + 1) hn = iprop(iprop(owns (c : Thread nD τ) scM0_0 fullShare (invV m c) ∗ owns (c : Thread nD τ) scM0_1 fullShare (accAt m c n hn) ∗ owns (c : Thread nD τ) scM0_2 fullShare (hmaxV m c)) ∗ (∃ r, prngReg c r)) := rfl

/-- Before any later point the scratch buffers hold what the point before left. -/
theorem PhiS_pos (c : Dev nD) (n : ℕ) (h : n ≤ cfg0.N) (hz : n ≠ 0) :
    PhiS m c n h = iprop(iprop(owns (c : Thread nD τ) scM0_0 fullShare (invV m c) ∗ owns (c : Thread nD τ) scM0_1 fullShare (accAt m c (n - 1) (by omega)) ∗ owns (c : Thread nD τ) scM0_2 fullShare (hmaxV m c)) ∗ (∃ r, prngReg c r)) := by
  cases n with
  | zero => exact absurd rfl hz
  | succ n => rfl

/-- The running maximum after a later point is one step from that of the point before. -/
theorem accAt_pos (c : Dev nD) (t : Fin cfg0.N) (hz : t.val ≠ 0) :
    accAt m c t.val t.isLt = accStep (iblk m c 1 t) (accAt m c (t.val - 1) (by omega)) := by
  obtain ⟨n, hn⟩ := t
  cases n with
  | zero => exact absurd rfl hz
  | succ n => rfl

/-- The proof data of the pipeline on core `c`: the arrays as the region finds them, and after each point each input's buffer at its block,
    the codes of the point's block, the maxima and the new scales of the whole input, and the scales in use. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => codesOf (iblk m c 1 t) (invV m c)
    | ⟨5, _⟩ => amaxOf (accAt m c 63 pt63.isLt)
    | ⟨6, _⟩ => newScaleOf (accAt m c 63 pt63.isLt) (hmaxV m c)
    | ⟨7, _⟩ => usedOf (scaleV m c)
  Φ t := PhiS m c t.val (Nat.le_of_lt_succ t.isLt)
  q _ := fullShare
  owed _ := 0

/-- The proof data starts from the arrays as launched. -/
theorem A_eq (c : Dev nD) (w : Fin cfg0.W) : (dats m 0 c).A w = V m c (Pipeline.arrRef spec0 w) := by
  dsimp only [dats]

/-- The scratch state before a point, by the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the buffer of the step holds after a point. -/
theorem after0_0 (c : Dev nD) (t : Fin cfg0.N) : (dats m 0 c).after 0 t = iblk m c 0 t := by dsimp only [dats]
/-- What the buffer of the input holds after a point. -/
theorem after0_1 (c : Dev nD) (t : Fin cfg0.N) : (dats m 0 c).after 1 t = iblk m c 1 t := by dsimp only [dats]
/-- What the buffer of the history holds after a point. -/
theorem after0_2 (c : Dev nD) (t : Fin cfg0.N) : (dats m 0 c).after 2 t = iblk m c 2 t := by dsimp only [dats]
/-- What the buffer of the scale holds after a point. -/
theorem after0_3 (c : Dev nD) (t : Fin cfg0.N) : (dats m 0 c).after 3 t = iblk m c 3 t := by dsimp only [dats]
/-- What the buffer of the codes holds after a point. -/
theorem after0_4 (c : Dev nD) (t : Fin cfg0.N) : (dats m 0 c).after 4 t = codesOf (iblk m c 1 t) (invV m c) := by dsimp only [dats]
/-- What the buffer of the maxima holds after a point. -/
theorem after0_5 (c : Dev nD) (t : Fin cfg0.N) : (dats m 0 c).after 5 t = amaxOf (accAt m c 63 pt63.isLt) := by dsimp only [dats]
/-- What the buffer of the new scales holds after a point. -/
theorem after0_6 (c : Dev nD) (t : Fin cfg0.N) : (dats m 0 c).after 6 t = newScaleOf (accAt m c 63 pt63.isLt) (hmaxV m c) := by dsimp only [dats]
/-- What the buffer of the scales in use holds after a point. -/
theorem after0_7 (c : Dev nD) (t : Fin cfg0.N) : (dats m 0 c).after 7 t = usedOf (scaleV m c) := by dsimp only [dats]
/-- What the buffer of the step holds before a point. -/
theorem before0_0 (c : Dev nD) (t : Fin cfg0.N) (d) : (dats m 0 c).before 0 t d = iblk m c 0 t :=
  before0_0_of m (dats m 0 c) (A_eq m c 0) (after0_0 m c) t d
/-- What the buffer of the input holds before a point. -/
theorem before0_1 (c : Dev nD) (t : Fin cfg0.N) (d) : (dats m 0 c).before 1 t d = iblk m c 1 t :=
  before0_1_of m (dats m 0 c) (A_eq m c 1) (after0_1 m c) t d
/-- What the buffer of the history holds before a point. -/
theorem before0_2 (c : Dev nD) (t : Fin cfg0.N) (d) : (dats m 0 c).before 2 t d = iblk m c 2 t :=
  before0_2_of m (dats m 0 c) (A_eq m c 2) (after0_2 m c) t d
/-- What the buffer of the scale holds before a point. -/
theorem before0_3 (c : Dev nD) (t : Fin cfg0.N) (d) : (dats m 0 c).before 3 t d = iblk m c 3 t :=
  before0_3_of m (dats m 0 c) (A_eq m c 3) (after0_3 m c) t d

/-! ## Where the outputs are idle -/

/-- The codes are written at every point. -/
theorem live4 (t : Fin cfg0.N) : cfg0.idle 4 (grid0.coords t) = false := rfl

/-- The maxima are written at the last point only. -/
theorem idle5 (t : Fin cfg0.N) : cfg0.idle 5 (grid0.coords t) = decide ¬t.val % 64 = 63 := by
  show (!(k0_cond2 (grid0.coords t) == 1#1)) = _
  by_cases h : t.val % 64 = 63
  · simp [h, show k0_cond2 (grid0.coords t) = 1#1 from (hcond0_1 t).mpr h]
  · simp [h, show ¬k0_cond2 (grid0.coords t) = 1#1 from fun e => h ((hcond0_1 t).mp e)]

/-- The new scales are written at the last point only. -/
theorem idle6 (t : Fin cfg0.N) : cfg0.idle 6 (grid0.coords t) = decide ¬t.val % 64 = 63 := idle5 t

/-- The scales in use are written at the first point only. -/
theorem idle7 (t : Fin cfg0.N) : cfg0.idle 7 (grid0.coords t) = decide ¬t.val % 64 = 0 := by
  show (!(k0_cond1 (grid0.coords t) == 1#1)) = _
  by_cases h : t.val % 64 = 0
  · simp [h, show k0_cond1 (grid0.coords t) = 1#1 from (hcond0_0 t).mpr h]
  · simp [h, show ¬k0_cond1 (grid0.coords t) = 1#1 from fun e => h ((hcond0_0 t).mp e)]

/-- A window that is written back at the last point is not written back at any other. -/
theorem noflush (w : Fin cfg0.W) (h : ∀ t : Fin cfg0.N, (cfg0.win w).flush t = true ↔ t.val % 64 = 63) (t : Fin cfg0.N) (h1 : ¬t.val % 64 = 63) :
    (cfg0.win w).flush t = false := by
  cases e : (cfg0.win w).flush t
  · rfl
  · exact absurd ((h t).mp e) h1

/-- After the first point the buffer of the scales in use holds what that point stored. -/
theorem fresh7 : ∀ n, n ≠ 0 → n < 64 → cfg0.fresh 7 n = false
  | 0, h, _ => absurd rfl h
  | n + 1, _, h => by
    have hN : n < cfg0.N := lt_of_lt_of_eq (by omega) N_0.symm
    rw [Cfg.fresh_succ cfg0 7 n hN, noflush 7 flush0_7 ⟨n, hN⟩ (by simp only; omega), idle7 ⟨n, hN⟩]
    by_cases hz : n = 0
    · subst hz; rfl
    · rw [fresh7 n hz (by omega), Bool.and_false, Bool.or_false]

/-- After the first point the scales in use are in their block before each point. -/
theorem before0_7 (c : Dev nD) (t : Fin cfg0.N) (hz : t.val ≠ 0) (d) : (dats m 0 c).before 7 t d = usedOf (scaleV m c) := by
  rw [Dat.before_out_traj (dats m 0 c) 7 rfl (fun _ _ => rfl) (fun t _ _ _ => by rw [after0_7, after0_7]) t.val t rfl d,
    fresh7 t.val hz (lt_of_lt_of_eq t.isLt N_0), if_neg Bool.false_ne_true, after0_7]

/-! ## What the body hands back, window by window -/

/-- What a point leaves in the buffer of the step. -/
theorem leaves0 (c : Dev nD) (t : Fin cfg0.N) : (dats m 0 c).leavesExact 0 t = owns (c : Thread nD τ) (ms0_0 t) fullShare (iblk m c 0 t) := by
  rw [← after0_0]
/-- What a point leaves in the buffer of the input. -/
theorem leaves1 (c : Dev nD) (t : Fin cfg0.N) : (dats m 0 c).leavesExact 1 t = owns (c : Thread nD τ) (ms0_1 t) fullShare (iblk m c 1 t) := by
  rw [← after0_1]
/-- What a point leaves in the buffer of the history. -/
theorem leaves2 (c : Dev nD) (t : Fin cfg0.N) : (dats m 0 c).leavesExact 2 t = owns (c : Thread nD τ) (ms0_2 t) fullShare (iblk m c 2 t) := by
  rw [← after0_2]
/-- What a point leaves in the buffer of the scale. -/
theorem leaves3 (c : Dev nD) (t : Fin cfg0.N) : (dats m 0 c).leavesExact 3 t = owns (c : Thread nD τ) (ms0_3 t) fullShare (iblk m c 3 t) := by
  rw [← after0_3]
/-- What a point leaves in the buffer of the codes. -/
theorem leaves4 (c : Dev nD) (t : Fin cfg0.N) : (dats m 0 c).leavesExact 4 t = owns (c : Thread nD τ) (ms0_4 t) fullShare (codesOf (iblk m c 1 t) (invV m c)) := by
  rw [← after0_4]
/-- Before the last point the maxima's block is left alone. -/
theorem leaves5_idle (c : Dev nD) (t : Fin cfg0.N) (h : ¬t.val % 64 = 63) :
    (dats m 0 c).leavesExact 5 t = iprop(∃ d, owns (c : Thread nD τ) (ms0_5 t) fullShare ((dats m 0 c).before 5 t d)) :=
  Dat.leavesExact_idle _ 5 t (by rw [idle5, decide_eq_true h]) (noflush 5 flush0_5 t h)
/-- At the last point the maxima's block holds the maxima. -/
theorem leaves5_live (c : Dev nD) (t : Fin cfg0.N) (h : t.val % 64 = 63) :
    (dats m 0 c).leavesExact 5 t = owns (c : Thread nD τ) (ms0_5 t) fullShare (amaxOf (accAt m c 63 pt63.isLt)) := by
  rw [← after0_5 m c t]; unfold Dat.leavesExact; rw [idle5, decide_eq_false (not_not.mpr h)]
/-- Before the last point the new scales' block is left alone. -/
theorem leaves6_idle (c : Dev nD) (t : Fin cfg0.N) (h : ¬t.val % 64 = 63) :
    (dats m 0 c).leavesExact 6 t = iprop(∃ d, owns (c : Thread nD τ) (ms0_6 t) fullShare ((dats m 0 c).before 6 t d)) :=
  Dat.leavesExact_idle _ 6 t (by rw [idle6, decide_eq_true h]) (noflush 6 flush0_6 t h)
/-- At the last point the new scales' block holds the new scales. -/
theorem leaves6_live (c : Dev nD) (t : Fin cfg0.N) (h : t.val % 64 = 63) :
    (dats m 0 c).leavesExact 6 t = owns (c : Thread nD τ) (ms0_6 t) fullShare (newScaleOf (accAt m c 63 pt63.isLt) (hmaxV m c)) := by
  rw [← after0_6 m c t]; unfold Dat.leavesExact; rw [idle6, decide_eq_false (not_not.mpr h)]
/-- At the first point the block of the scales in use is filled. -/
theorem leaves7_first (c : Dev nD) (t : Fin cfg0.N) (h : t.val % 64 = 0) :
    (dats m 0 c).leavesExact 7 t = owns (c : Thread nD τ) (ms0_7 t) fullShare (usedOf (scaleV m c)) := by
  rw [← after0_7 m c t]; unfold Dat.leavesExact; rw [idle7, decide_eq_false (not_not.mpr h)]
/-- At a middle point the block of the scales in use is left alone. -/
theorem leaves7_mid (c : Dev nD) (t : Fin cfg0.N) (h : ¬t.val % 64 = 0) (h1 : ¬t.val % 64 = 63) :
    (dats m 0 c).leavesExact 7 t = iprop(∃ d, owns (c : Thread nD τ) (ms0_7 t) fullShare ((dats m 0 c).before 7 t d)) :=
  Dat.leavesExact_idle _ 7 t (by rw [idle7, decide_eq_true h]) (noflush 7 flush0_7 t h1)
/-- At the last point the block of the scales in use still holds them. -/
theorem leaves7_last (c : Dev nD) (t : Fin cfg0.N) (h : ¬t.val % 64 = 0) (h1 : t.val % 64 = 63) :
    (dats m 0 c).leavesExact 7 t = owns (c : Thread nD τ) (ms0_7 t) fullShare (usedOf (scaleV m c)) := by
  rw [← after0_7 m c t]; unfold Dat.leavesExact; rw [idle7, decide_eq_true h, (flush0_7 t).mpr h1]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

end Cert.KernelIdeal.Gen
-- ==== Proof.KFirst.lean ====
/- The body at the first point. -/
module

public import proofs.«01_k».proof.Proof.KState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

local notation "𝕄" => MT nD τ sig Unit (Elt F) ℕ (UR sig nD τ) ℕ

variable (m : (ℓ : Loc nD τ sig) → Buf (Elt F) ℓ) (ρ : Dev nD → PrngReg)

set_option maxHeartbeats 9600000 in
/-- The body at the first point. -/
theorem sound_first (c : Dev nD) (t : Fin cfg0.N) (h0 : t.val % 64 = 0) (h1 : ¬t.val % 64 = 63) (hz : t = pt0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0, leaves1, leaves2, leaves3, leaves4]
  rw [PhiS_zero m c _ _ (congrArg Fin.val hz), PhiA0_eq, leaves5_idle m c t h1, leaves6_idle m c t h1, leaves7_first m c t h0]
  rw [show accAt m c t.val t.isLt = accStep (iblk m c 1 t) k0_pay31 from by subst hz; rfl]
  rw [show invV m c = invOf (View.ld (iblk m c 3 t : S2x128.Idx → Elt F .f32) rS) from by subst hz; rfl,
    show hmaxV m c = hmaxB (iblk m c 0 t) (iblk m c 2 t) from by subst hz; rfl,
    show scaleV m c = View.ld (iblk m c 3 t : S2x128.Idx → Elt F .f32) rS from by subst hz; rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)).2.2.2.2.2 Set.univ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexists _; iexact H7
  isplitl [HS0]; · iexact HS0
  isplitl [HS1]; · iexact HS1
  isplitl [HS2]; · iexact HS2
  iintro ⟨H0, H1, H2, H3, ⟨%e4, H4⟩, H5, H6, ⟨%e7, H7⟩, ⟨%e8, HS0⟩, ⟨%e9, HS1⟩, ⟨%e10, HS2⟩⟩
  isplitl [HS0 HS1 HS2 Hg]
  · isplitl [HS0 HS1 HS2]
    · isplitl [HS0]
      · unfold owns; iexists _; isplitr
        swap; · iexact HS0
        ipureintro; exact endA_inv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) e8
      isplitl [HS1]
      · unfold owns; iexists _; isplitr
        swap; · iexact HS1
        ipureintro; exact endA_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) e9
      · unfold owns; iexists _; isplitr
        swap; · iexact HS2
        ipureintro; exact endA_hmax c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) e10
    iexact Hg
  isplitl [Ho]; · iexact Ho
  isplitl [H0]
  · iexact H0
  isplitl [H1]
  · iexact H1
  isplitl [H2]
  · iexact H2
  isplitl [H3]
  · iexact H3
  isplitl [H4]
  · unfold owns; iexists _; isplitr
    swap; · iexact H4
    ipureintro; exact endA_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) e4
  isplitl [H5]
  · iexists _; iexact H5
  isplitl [H6]
  · iexists _; iexact H6
  · unfold owns; iexists _; isplitr
    swap; · iexact H7
    ipureintro; exact endA_used c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) e7

end Cert.KernelIdeal.Gen
-- ==== Proof.KMid.lean ====
/- The body at a point between the first and the last. -/
module

public import proofs.«01_k».proof.Proof.KState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

local notation "𝕄" => MT nD τ sig Unit (Elt F) ℕ (UR sig nD τ) ℕ

variable (m : (ℓ : Loc nD τ sig) → Buf (Elt F) ℓ) (ρ : Dev nD → PrngReg)

set_option maxHeartbeats 9600000 in
/-- The body at a point between the first and the last. -/
theorem sound_mid (c : Dev nD) (t : Fin cfg0.N) (h0 : ¬t.val % 64 = 0) (h1 : ¬t.val % 64 = 63) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0, leaves1, leaves2, leaves3, leaves4]
  rw [PhiS_pos m c _ _ hz, accAt_pos m c t hz, leaves5_idle m c t h1, leaves6_idle m c t h1, leaves7_mid m c t h0 h1]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (invV m c) (accAt m c (t.val - 1) (by omega)) (hmaxV m c)).2.2 Set.univ _ _ _ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [H7]; · iexact H7
  isplitl [HS0]; · iexact HS0
  isplitl [HS1]; · iexact HS1
  isplitl [HS2]; · iexact HS2
  iintro ⟨H0, H1, H2, H3, ⟨%e4, H4⟩, H5, H6, H7, HS0, ⟨%e9, HS1⟩, HS2⟩
  isplitl [HS0 HS1 HS2 Hg]
  · isplitl [HS0 HS1 HS2]
    · isplitl [HS0]
      · iexact HS0
      isplitl [HS1]
      · unfold owns; iexists _; isplitr
        swap; · iexact HS1
        ipureintro; exact endB_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (invV m c) (accAt m c (t.val - 1) (by omega)) (hmaxV m c) e9
      · iexact HS2
    iexact Hg
  isplitl [Ho]; · iexact Ho
  isplitl [H0]
  · iexact H0
  isplitl [H1]
  · iexact H1
  isplitl [H2]
  · iexact H2
  isplitl [H3]
  · iexact H3
  isplitl [H4]
  · unfold owns; iexists _; isplitr
    swap; · iexact H4
    ipureintro; exact endB_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (invV m c) (accAt m c (t.val - 1) (by omega)) (hmaxV m c) e4
  isplitl [H5]
  · iexists _; iexact H5
  isplitl [H6]
  · iexists _; iexact H6
  · iexists _; iexact H7

end Cert.KernelIdeal.Gen
-- ==== Proof.KLast.lean ====
/- The body at the last point. -/
module

public import proofs.«01_k».proof.Proof.KState

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

local notation "𝕄" => MT nD τ sig Unit (Elt F) ℕ (UR sig nD τ) ℕ

variable (m : (ℓ : Loc nD τ sig) → Buf (Elt F) ℓ) (ρ : Dev nD → PrngReg)

set_option maxHeartbeats 9600000 in
/-- The body at the last point. -/
theorem sound_last (c : Dev nD) (t : Fin cfg0.N) (h0 : ¬t.val % 64 = 0) (h1 : t.val % 64 = 63) (hz : t.val ≠ 0) (h63 : t = pt63) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ, PhiS_castSucc m c t]
  rw [leaves0, leaves1, leaves2, leaves3, leaves4]
  rw [PhiS_pos m c _ _ hz, accAt_pos m c t hz, leaves5_live m c t h1, leaves6_live m c t h1, leaves7_last m c t h0 h1]
  rw [show accAt m c 63 pt63.isLt = accStep (iblk m c 1 t) (accAt m c (t.val - 1) (by omega)) from by subst h63; rfl]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kRunC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (invV m c) (accAt m c (t.val - 1) (by omega)) (hmaxV m c)).2.2.2.2 Set.univ _ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexact H7
  isplitl [HS0]; · iexact HS0
  isplitl [HS1]; · iexact HS1
  isplitl [HS2]; · iexact HS2
  iintro ⟨H0, H1, H2, H3, ⟨%e4, H4⟩, ⟨%e5, H5⟩, ⟨%e6, H6⟩, H7, HS0, ⟨%e9, HS1⟩, HS2⟩
  isplitl [HS0 HS1 HS2 Hg]
  · isplitl [HS0 HS1 HS2]
    · isplitl [HS0]
      · iexact HS0
      isplitl [HS1]
      · unfold owns; iexists _; isplitr
        swap; · iexact HS1
        ipureintro; exact endC_acc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (invV m c) (accAt m c (t.val - 1) (by omega)) (hmaxV m c) e9
      · iexact HS2
    iexact Hg
  isplitl [Ho]; · iexact Ho
  isplitl [H0]
  · iexact H0
  isplitl [H1]
  · iexact H1
  isplitl [H2]
  · iexact H2
  isplitl [H3]
  · iexact H3
  isplitl [H4]
  · unfold owns; iexists _; isplitr
    swap; · iexact H4
    ipureintro; exact endC_codes c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (invV m c) (accAt m c (t.val - 1) (by omega)) (hmaxV m c) e4
  isplitl [H5]
  · unfold owns; iexists _; isplitr
    swap; · iexact H5
    ipureintro; exact endC_amax c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (invV m c) (accAt m c (t.val - 1) (by omega)) (hmaxV m c) e5
  isplitl [H6]
  · unfold owns; iexists _; isplitr
    swap; · iexact H6
    ipureintro; exact endC_scale c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (invV m c) (accAt m c (t.val - 1) (by omega)) (hmaxV m c) e6
  · rw [before0_7 m c t hz d7]; iexact H7

end Cert.KernelIdeal.Gen
-- ==== Proof.KFrame.lean ====
/- The body obligation, the launch and the frame. -/
module

public import proofs.«01_k».proof.Proof.KFirst
public import proofs.«01_k».proof.Proof.KMid
public import proofs.«01_k».proof.Proof.KLast
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.View (canon)

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 64 := lt_of_lt_of_eq t.isLt N_0
  by_cases h0 : t.val % 64 = 0
  · exact sound_first m c t h0 (by omega) (Fin.ext (show t.val = 0 by omega))
  · by_cases h1 : t.val % 64 = 63
    · exact sound_last m c t h0 h1 (by omega) (Fin.ext (show t.val = 63 by omega))
    · exact sound_mid m c t h0 h1 (by omega)

/-- The kernel body's definition at a point is the body run there. -/
theorem defs₀_row (t : Fin cfg0.N) :
    defs₀ (F := F) .tc cfg0.body (cfg0.bodyArgs t (cfg0.slots t)) = bodyAt0 t := by
  unfold defs₀; rw [Defs.onTc_tc]

/-- The body keeps the pipeline's contract at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The pipeline's opening state is the proof data's state before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The proof data's state after the last point gives back the pipeline's closing state. -/
theorem hout (c : Dev nD) : (dats m 0 c).Φ (Fin.last cfg0.N) ⊢ Pipeline.ΦA spec0 c := by
  have ht : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every run of the launched kernel ends with the pipeline's arrays as the proof data says, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run of the launched kernel ends with the pipeline's arrays as the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen
-- ==== Proof.KBits.lean ====
/- The kernel and its reading at ideal floats are one text, so the frame proved of the latter at any floats is the frame of the former. -/
module
public import proofs.«01_k».proof.Defs
public import proofs.«01_k».proof.Proof.Gen.Kernel
public import proofs.«01_k».proof.Proof.KFrame
@[expose] public section
noncomputable section

namespace Cert.Proof

open Idealize.ShloMosaic Idealize.ShloMosaic.Tactic Idealize.ShloMosaic.TcCoe Idealize.SL.Sem
attribute [local instance] Cert.Kernel.Gen.facts Cert.KernelIdeal.Gen.facts

/-- The two readings of the kernel's text have one frame at bit floats. -/
theorem frameEq : (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)) =
    (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)) := by
  sl_kernel_rfl

/-- The kernel as compiled runs, leaves its arguments unchanged and ends quiescent. -/
theorem frame_Kernel : Cert.quiescent_Kernel := fun m g _ => frameEq.mpr (fun m g => Cert.KernelIdeal.Gen.frame m g) m g

end Cert.Proof

end
-- ==== Proof.VTile.lean ====
/- What a tile of the running maximum is, at ideal floats. -/
module

public import proofs.«01_k».proof.Proof.KFrame
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

/-- The absolute value of an extended real. -/
def mag (a : EReal) : EReal := max a (-a)

/-- A magnitude is not negative. -/
theorem mag_nonneg (a : EReal) : 0 ≤ mag a := by
  unfold mag
  rcases le_total 0 a with h | h
  · exact le_max_of_le_left h
  · exact le_max_of_le_right (EReal.neg_nonneg.mpr h)

/-- The bfloat16 word of minus infinity is the least extended real. -/
theorem negInf_bf16 : Ideal.ofBits .bf16 0xFF80#16 = (⊥ : EReal) := by
  simp [Ideal.ofBits, Ideal.ieee]

/-- The float32 word of minus infinity is the least extended real. -/
theorem negInf_f32 : Ideal.ofBits .f32 0xFF800000#32 = (⊥ : EReal) := by
  simp [Ideal.ofBits, Ideal.ieee]

/-- A tile of the running maximum is at most `b` exactly if it was before and the block's magnitudes are. -/
theorem accTile_le (x : FVec Ideal S256x128 .bf16) (a : FVec Ideal S16x128 .bf16) (i : Fin 16) (l : Fin 128) (b : EReal) :
    accTile (F := Ideal) x a (ix2 i l) ≤ b ↔ a (ix2 i l) ≤ b ∧ ∀ g : Fin 16, mag (x (ix2 ⟨g.val * 16 + i.val, by omega⟩ l)) ≤ b := by
  unfold accTile mag
  pointwise [k0_pay118, k0_pay116]
  rw [max_le_iff, Finset.fold_max_le, negInf_bf16]
  simp only [bot_le, true_and, Finset.mem_univ, forall_const]
  rfl

/-- The maximum over the rows of a tile. -/
theorem tileRow_le (t : FVec Ideal S16x128 .bf16) (l : Fin 128) (b : EReal) :
    k0_pay33 (F := Ideal) t (ix2 0 l) ≤ b ↔ ∀ i : Fin 16, t (ix2 i l) ≤ b := by
  pointwise [k0_pay33]
  rw [Finset.fold_max_le, negInf_f32]
  simp only [bot_le, true_and, Finset.mem_univ, forall_const]

/-- The running maximum after a block is at most `b` exactly if it was before and the block's magnitudes are. -/
theorem accStep_le (x : FVec Ideal S256x7168 .bf16) (a : FVec Ideal S16x7168 .bf16) (i : Fin 16) (j : Fin 7168) (b : EReal) :
    accStep (F := Ideal) x a (ix2 i j) ≤ b ↔ a (ix2 i j) ≤ b ∧ ∀ g : Fin 16, mag (x (ix2 ⟨g.val * 16 + i.val, by omega⟩ j)) ≤ b := by
  have hj : j.val / 128 < 56 := by omega
  have hl : j.val % 128 < 128 := by omega
  have e : (ix2 i j : S16x7168.Idx) = (rA ⟨j.val / 128, hj⟩).emb (ix2 i ⟨j.val % 128, hl⟩) := by
    funext a
    apply Fin.ext
    match a with
    | ⟨0, _⟩ => show i.val = 0 + 1 * i.val; omega
    | ⟨1, _⟩ => show j.val = 128 * (j.val / 128) + 1 * (j.val % 128); omega
  rw [e, accStep_emb]
  refine (accTile_le _ _ i ⟨j.val % 128, hl⟩ b).trans ?_
  have ex : ∀ g : Fin 16, View.ld (Val := Elt Ideal) (e' := EltTy.bf16) x (rX ⟨j.val / 128, hj⟩) (ix2 ⟨g.val * 16 + i.val, by omega⟩ ⟨j.val % 128, hl⟩) = x (ix2 ⟨g.val * 16 + i.val, by omega⟩ j) := by
    intro g
    show x _ = x _
    congr 1
    funext a
    apply Fin.ext
    match a with
    | ⟨0, _⟩ => show 0 + 1 * (g.val * 16 + i.val) = g.val * 16 + i.val; omega
    | ⟨1, _⟩ => show 128 * (j.val / 128) + 1 * (j.val % 128) = j.val; omega
  simp only [ex]
  rfl

/-- The running maximum starts at zero. -/
theorem clear_apply (y : S16x7168.Idx) : k0_pay31 (F := Ideal) y = (0 : EReal) := by
  pointwise [k0_pay31]

/-- A tile of codes: the product with the inverse scales, clipped. -/
theorem codeTile_apply (x : FVec Ideal S256x128 .bf16) (s : FVec Ideal S1x1x128 .f32) (i : Fin 256) (l : Fin 128) :
    codeTile (F := Ideal) x s (ix2 i l)
      = min (Ideal.ofBits .f32 0x43E00000#32) (max (Ideal.ofBits .f32 0xC3E00000#32) (x (ix2 i l) * s (ix3 0 0 l))) := by
  unfold codeTile
  pointwise [k0_pay117, k0_pay116]

end Cert.KernelIdeal.Gen
-- ==== Proof.VSeg.lean ====
/- The maximum over the columns of each tensor, at ideal floats. -/
module

public import proofs.«01_k».proof.Proof.VTile
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

/-- A half's tile rows: the 28 row maxima, then zeros. -/
theorem tileRows_le (t : Fin 28 → FVec Ideal S16x128 .bf16) (r : Fin 28) (l : Fin 128) (b : EReal) :
    tileRows (F := Ideal) t (ix2 ⟨r.val, by omega⟩ l) ≤ b ↔ ∀ i : Fin 16, t r (ix2 i l) ≤ b := by
  rw [← tileRow_le]
  unfold tileRows
  pointwise
  obtain ⟨r, hr⟩ := r
  interval_cases r <;> simp only [Nat.reduceSub, Nat.reduceLT, ↓reduceDIte] <;> rfl

/-- The value a run of columns holds at a column, the run laid out in tile rows of 128. -/
def col (v : FVec Ideal S32x128 .f32) (f : ℕ) : EReal := v (ix2 ⟨f / 128 % 32, Nat.mod_lt _ (by decide)⟩ ⟨f % 128, Nat.mod_lt _ (by decide)⟩)

/-- The comparison of two lanes is that of their numbers. -/
theorem lane_slt : ∀ l s : Fin 128, IntOp.cmpi CmpIPredicate.slt (BitVec.ofNat 32 l.val) (BitVec.ofNat 32 s.val) = BitVec.ofBool (decide (l.val < s.val)) := by
  decide +kernel

/-- One widening step: the maximum with the column so many places on. -/
theorem widen_apply (s : Fin 128) (hs : 0 < s.val) (v : FVec Ideal S32x128 .f32) (r : Fin 32) (l : Fin 128) :
    widen (F := Ideal) (BitVec.ofNat 32 s.val) v (ix2 r l) = max (v (ix2 r l)) (col v (r.val * 128 + l.val + (128 - s.val))) := by
  unfold widen ahead
  pointwise
  congr 1
  unfold col
  have hm : (BitVec.ofNat 32 s.val).toNat = s.val := by
    rw [BitVec.toNat_ofNat]; omega
  have h1 : s.val % 128 = s.val := by omega
  refine (congrArg (fun c => Scalar.select c _ _) (lane_slt l s)).trans ?_
  by_cases h : l.val < s.val
  · simp only [h, decide_true]
    show v _ = v _
    congr 2 <;> (apply Fin.ext; dsimp only; (try rw [hm]); omega)
  · simp only [h, decide_false]
    show v _ = v _
    congr 2 <;> (apply Fin.ext; dsimp only; (try rw [hm]); omega)

/-- The same, column by column. -/
theorem widen_col (s : Fin 128) (hs : 0 < s.val) (v : FVec Ideal S32x128 .f32) (f : ℕ) :
    col (widen (F := Ideal) (BitVec.ofNat 32 s.val) v) f = max (col v f) (col v (f + (128 - s.val))) := by
  refine (widen_apply s hs v _ _).trans ?_
  congr 1
  unfold col
  congr 2 <;> (apply Fin.ext; dsimp only; omega)

/-- A step takes runs of `n` columns to runs of `n + d`. -/
theorem widen_run (s : Fin 128) (hs : 0 < s.val) (v w : FVec Ideal S32x128 .f32) (n m : ℕ) (b : EReal) (hm : n + (128 - s.val) = m) (hd : 128 - s.val ≤ n)
    (hv : ∀ f, col v f ≤ b ↔ ∀ k, k < n → col w (f + k) ≤ b) (f : ℕ) :
    col (widen (F := Ideal) (BitVec.ofNat 32 s.val) v) f ≤ b ↔ ∀ k, k < m → col w (f + k) ≤ b := by
  rw [widen_col s hs, max_le_iff, hv, hv]
  constructor
  · rintro ⟨h1, h2⟩ k hk
    by_cases h : k < n
    · exact h1 k h
    · have := h2 (k - (128 - s.val)) (by omega)
      rwa [show f + (128 - s.val) + (k - (128 - s.val)) = f + k from by omega] at this
  · intro h
    refine ⟨fun k hk => h k (by omega), fun k hk => ?_⟩
    rw [Nat.add_assoc]
    exact h _ (by omega)

/-- The five steps: the maximum of the 28 columns starting at each. -/
theorem widen_all (w : FVec Ideal S32x128 .f32) (b : EReal) (f : ℕ) :
    col (widen (F := Ideal) 116#32 (widen 120#32 (widen 124#32 (widen 126#32 (widen 127#32 w))))) f ≤ b ↔ ∀ k, k < 28 → col w (f + k) ≤ b := by
  refine widen_run ⟨116, by decide⟩ (by decide) _ w 16 28 b rfl (by decide) (fun f => ?_) f
  refine widen_run ⟨120, by decide⟩ (by decide) _ w 8 16 b rfl (by decide) (fun f => ?_) f
  refine widen_run ⟨124, by decide⟩ (by decide) _ w 4 8 b rfl (by decide) (fun f => ?_) f
  refine widen_run ⟨126, by decide⟩ (by decide) _ w 2 4 b rfl (by decide) (fun f => ?_) f
  refine widen_run ⟨127, by decide⟩ (by decide) _ w 1 2 b rfl (by decide) (fun f => ?_) f
  constructor
  · intro h k hk
    obtain rfl : k = 0 := by omega
    exact h
  · intro h
    exact h 0 (by decide)

/-- The lane of each tensor's first column. -/
theorem startLane_apply (r : Fin 32) (l : Fin 128) : startLane (ix2 r l) = BitVec.ofNat 32 (28 * l.val % 128) := by
  unfold startLane startIx
  pointwise
  revert l
  clear r
  decide +kernel

/-- The tile row of each tensor's first column. -/
theorem startRow_apply (r : Fin 32) (l : Fin 128) : startRow (ix2 r l) = BitVec.ofBool (decide (r.val = 28 * l.val / 128)) := by
  unfold startRow startIx
  pointwise
  revert r l
  decide +kernel

/-- The maximum of a tensor's 28 columns, and of zero. -/
theorem segMax_le (w : FVec Ideal S32x128 .f32) (l : Fin 128) (b : EReal) :
    segMax (F := Ideal) w (ix2 0 l) ≤ b ↔ 0 ≤ b ∧ ∀ k, k < 28 → col w (28 * l.val + k) ≤ b := by
  rw [← widen_all]
  unfold segMax
  generalize (widen 116#32 (widen 120#32 (widen 124#32 (widen 126#32 (widen 127#32 w))))) = v
  pointwise
  rw [Finset.fold_max_le, negInf_f32]
  simp only [bot_le, true_and, Finset.mem_univ, forall_const, startRow_apply, startLane_apply]
  have hm : (BitVec.ofNat 32 (28 * l.val % 128)).toNat % 128 = 28 * l.val % 128 := by
    rw [BitVec.toNat_ofNat]; omega
  simp only [hm]
  have hsel : ∀ x : Fin 32, Scalar.select (α := EReal) (BitVec.ofBool (decide (x.val = 28 * l.val / 128))) (v (ix2 x ⟨28 * l.val % 128, Nat.mod_lt _ (by decide)⟩)) (0 : EReal)
      = if x.val = 28 * l.val / 128 then col v (28 * l.val) else 0 := by
    intro x
    by_cases h : x.val = 28 * l.val / 128
    · simp only [h, decide_true, if_true]
      show v _ = v _
      congr 2
      apply Fin.ext
      show x.val = 28 * l.val / 128 % 32
      omega
    · simp only [h, decide_false, if_false]
      rfl
  constructor
  · intro h
    constructor
    · have := h ⟨31, by decide⟩
      refine le_trans (le_of_eq ?_) this
      rw [hsel, if_neg]
      show ¬ (31 = 28 * l.val / 128)
      omega
    · have := h ⟨28 * l.val / 128, by omega⟩
      refine le_trans (le_of_eq ?_) this
      rw [hsel, if_pos rfl]
  · rintro ⟨h0, h1⟩ x
    refine le_trans (le_of_eq (hsel x)) ?_
    split
    · exact h1
    · exact h0

/-- The maxima of a half's tensors, from its 28 tiles. -/
theorem amaxHalf_le (t : Fin 28 → FVec Ideal S16x128 .bf16) (l : Fin 128) (b : EReal) :
    amaxHalf (F := Ideal) t (ix2 0 l) ≤ b ↔ 0 ≤ b ∧ ∀ k : Fin 28, ∀ i : Fin 16, t ⟨(28 * l.val + k.val) / 128, by omega⟩ (ix2 i ⟨(28 * l.val + k.val) % 128, Nat.mod_lt _ (by decide)⟩) ≤ b := by
  unfold amaxHalf
  rw [segMax_le]
  have hc : ∀ k : Fin 28, col (tileRows (F := Ideal) t) (28 * l.val + k.val) ≤ b ↔ ∀ i : Fin 16, t ⟨(28 * l.val + k.val) / 128, by omega⟩ (ix2 i ⟨(28 * l.val + k.val) % 128, Nat.mod_lt _ (by decide)⟩) ≤ b := by
    intro k
    rw [← tileRows_le]
    unfold col
    have : (28 * l.val + k.val) / 128 % 32 = (28 * l.val + k.val) / 128 := by omega
    simp only [this]
  refine and_congr_right fun _ => ⟨fun h k => (hc k).mp (h k.val k.isLt), fun h k hk => (hc ⟨k, hk⟩).mpr (h ⟨k, hk⟩)⟩

end Cert.KernelIdeal.Gen
-- ==== Proof.VBlocks.lean ====
/- The blocks of the arguments. -/
module

public import proofs.«01_k».proof.Proof.VSeg
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

/-- The index maps of the windows. -/
theorem idx : ∀ t : Fin cfg0.N, win0_1.index t = ![t.val, 0] ∧ win0_4.index t = ![t.val, 0] ∧ win0_0.index t = ![0] ∧ win0_2.index t = ![0, 0]
    ∧ win0_3.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

/-- The input at a row of the flattened batch and a column. -/
def xAt (a0 : S2x8192x7168.Idx → EReal) (r : Fin 16384) (j : Fin 7168) : EReal := a0 (ix3 ⟨r.val / 8192, by omega⟩ ⟨r.val % 8192, by omega⟩ j)

/-- A block of the input holds 256 rows of it. -/
theorem iblk1_apply (c : Dev nD) (t : Fin cfg0.N) (r : Fin 256) (j : Fin 7168) (h : t.val * 256 + r.val < 16384) :
    iblk m c 1 t (ix2 r j) = xAt (m ((c : Thread nD τ).loc main_arg0)) ⟨t.val * 256 + r.val, h⟩ j := by
  blk_simp [iblk, idx t]
  entry_read
  pointwise
  unfold xAt
  blk_ext [idx t]

/-- The step, as the body reads it. -/
theorem iblk0_apply (c : Dev nD) (t : Fin cfg0.N) (i : S1.Idx) :
    iblk m c 0 t i = m ((c : Thread nD τ).loc main_arg3) ix0 := by
  blk_simp [iblk, idx t]
  entry_read
  pointwise

/-- The history block is the whole history. -/
theorem iblk2_eq (c : Dev nD) (t : Fin cfg0.N) :
    iblk m c 2 t = m ((c : Thread nD τ).loc main_arg1) := by
  blk_ext! [iblk, V, idx t]

/-- The scales, as the body reads them in two rows. -/
theorem iblk3_apply (c : Dev nD) (t : Fin cfg0.N) (p : Fin 2) (l : Fin 128) :
    iblk m c 3 t (ix2 p l) = m ((c : Thread nD τ).loc main_arg2) (ix1 ⟨p.val * 128 + l.val, by omega⟩) := by
  blk_simp [iblk, idx t]
  entry_read
  pointwise
  blk_ext [idx t]

end Cert.KernelIdeal.Gen
-- ==== Proof.VAmax.lean ====
/- The kernel's maxima. -/
module

public import proofs.«01_k».proof.Proof.VBlocks
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

variable (m : (ℓ : Loc nD τ sig) → Buf (Elt Ideal) ℓ)

/-- The running maximum after a point: zero, and the magnitudes of the rows so far that fall on its row. -/
theorem accAt_le (c : Dev nD) (n : ℕ) (h : n < cfg0.N) (i : Fin 16) (j : Fin 7168) (b : EReal) :
    accAt m c n h (ix2 i j) ≤ b ↔ (0 : EReal) ≤ b ∧ ∀ r : Fin 16384, r.val < 256 * (n + 1) → r.val % 16 = i.val →
      mag (xAt (m ((c : Thread nD τ).loc main_arg0)) r j) ≤ b := by
  have hN : ∀ k, k < cfg0.N → k < 64 := fun k hk => hk
  have step : ∀ (t : Fin cfg0.N) (a : FVec Ideal S16x7168 .bf16), accStep (F := Ideal) (iblk m c 1 t) a (ix2 i j) ≤ b ↔ a (ix2 i j) ≤ b ∧
      ∀ r : Fin 16384, 256 * t.val ≤ r.val → r.val < 256 * (t.val + 1) → r.val % 16 = i.val → mag (xAt (m ((c : Thread nD τ).loc main_arg0)) r j) ≤ b := by
    intro t a
    have ht := hN _ t.isLt
    rw [accStep_le]
    refine and_congr_right fun _ => ⟨fun H r h1 h2 h3 => ?_, fun H g => ?_⟩
    · have hg := H ⟨(r.val % 256) / 16, by omega⟩
      rw [iblk1_apply m c t _ j (by dsimp only; omega)] at hg
      have e : (⟨t.val * 256 + (r.val % 256 / 16 * 16 + i.val), by omega⟩ : Fin 16384) = r := Fin.ext (by dsimp only; omega)
      rw [← e]
      exact hg
    · rw [iblk1_apply m c t _ j (by dsimp only; omega)]
      exact H _ (by dsimp only; omega) (by dsimp only; omega) (by dsimp only; omega)
  induction n with
  | zero =>
    refine (step ⟨0, h⟩ _).trans ?_
    rw [clear_apply]
    exact and_congr_right fun _ => ⟨fun H r h1 h2 => H r (by dsimp only; omega) h1 h2, fun H r _ h1 h2 => H r h1 h2⟩
  | succ n ih =>
    refine (step ⟨n + 1, h⟩ _).trans ?_
    refine (and_congr_left fun _ => ih (Nat.lt_of_succ_lt h)).trans ?_
    constructor
    · rintro ⟨⟨h0, h1⟩, h2⟩
      refine ⟨h0, fun r hr hi => ?_⟩
      by_cases hlt : r.val < 256 * (n + 1)
      · exact h1 r hlt hi
      · exact h2 r (by dsimp only; omega) hr hi
    · rintro ⟨h0, h1⟩
      exact ⟨⟨h0, fun r hr hi => h1 r (by omega) hi⟩, fun r _ hr hi => h1 r hr hi⟩

/-- Two rows stored one by one, read back. -/
theorem rows_apply {e : EltTy} (f : Fin 2 → S1x128.Idx → Elt Ideal e) (p : Fin 2) (l : Fin 128) :
    canon (Val := Elt Ideal) [⟨rR 1, f 1⟩, ⟨rR 0, f 0⟩] (ix2 p l) = f p (ix2 0 l) := by
  have e1 : (ix2 p l : S2x128.Idx) = (rR p).emb (ix2 0 l) := by
    funext a
    apply Fin.ext
    match a with
    | ⟨0, _⟩ => show p.val = p.val + 1 * 0; omega
    | ⟨1, _⟩ => show l.val = 0 + 1 * l.val; omega
  rw [e1]
  refine View.canon_eq_of_allAt _ _ _ (View.cover_of_tiledL _ ![1, 128] (by sl_kernel_rfl) _) ?_
  have key : ∀ (k : Fin 2) (w : S1x128.Idx), (rR k).emb w = (rR p).emb (ix2 0 l) → f k w = f p (ix2 0 l) := by
    intro k w hw
    have h0 : k.val + 1 * (w 0).val = p.val + 1 * 0 := congrArg (fun y : S2x128.Idx => (y 0).val) hw
    have b0 : (w 0).val < 1 := (w 0).isLt
    have hk : k = p := Fin.ext (by omega)
    subst hk
    rw [(rR k).emb.injective hw]
  intro q hq
  rcases List.mem_cons.mp hq with rfl | hq
  · exact key 1
  · rcases List.mem_cons.mp hq with rfl | hq
    · exact key 0
    · cases hq

/-- The greatest magnitude of a tensor's 28 columns. -/
def amaxSpec (a0 : S2x8192x7168.Idx → EReal) (n : Fin 256) : EReal :=
  ⨆ r : Fin 16384, ⨆ k : Fin 28, mag (xAt a0 r ⟨28 * n.val + k.val, by omega⟩)

/-- A tensor's maximum is at most `b` exactly when every magnitude in the tensor is. -/
theorem amaxSpec_le (a0 : S2x8192x7168.Idx → EReal) (n : Fin 256) (b : EReal) :
    amaxSpec a0 n ≤ b ↔ ∀ r : Fin 16384, ∀ k : Fin 28, mag (xAt a0 r ⟨28 * n.val + k.val, by omega⟩) ≤ b := by
  unfold amaxSpec
  simp only [iSup_le_iff]

/-- A column tile of the running maximum. -/
theorem halfTiles_apply (a : S16x7168.Idx → Elt Ideal .bf16) (p : Fin 2) (k : Fin 28) (i : Fin 16) (l : Fin 128) :
    halfTiles (F := Ideal) a p k (ix2 i l) = a (ix2 i ⟨128 * (28 * p.val + k.val) + l.val, by omega⟩) := by
  show a _ = a _
  congr 1
  funext x
  apply Fin.ext
  match x with
  | ⟨0, _⟩ => show 0 + 1 * i.val = i.val; omega
  | ⟨1, _⟩ => show 128 * (28 * p.val + k.val) + 1 * l.val = 128 * (28 * p.val + k.val) + l.val; omega

/-- A half's maxima, from the running maximum after the last point. -/
theorem half_eq (c : Dev nD) (h : 63 < cfg0.N) (p : Fin 2) (l : Fin 128) :
    amaxHalf (F := Ideal) (halfTiles (accAt m c 63 h) p) (ix2 0 l) = amaxSpec (m ((c : Thread nD τ).loc main_arg0)) ⟨128 * p.val + l.val, by omega⟩ := by
  refine eq_of_forall_ge_iff fun b => ?_
  have key : ∀ (k : Fin 28) (i : Fin 16), halfTiles (accAt m c 63 h) p ⟨(28 * l.val + k.val) / 128, by omega⟩ (ix2 i ⟨(28 * l.val + k.val) % 128, by omega⟩) ≤ b
      ↔ (0 : EReal) ≤ b ∧ ∀ r : Fin 16384, r.val % 16 = i.val → mag (xAt (m ((c : Thread nD τ).loc main_arg0)) r ⟨28 * (128 * p.val + l.val) + k.val, by omega⟩) ≤ b := by
    intro k i
    rw [halfTiles_apply]
    refine (accAt_le m c 63 h i _ b).trans ?_
    have hc : 128 * (28 * p.val + (28 * l.val + k.val) / 128) + (28 * l.val + k.val) % 128 = 28 * (128 * p.val + l.val) + k.val := by omega
    simp only [hc]
    exact and_congr_right fun _ => ⟨fun H r hr => H r (by omega) hr, fun H r _ hr => H r hr⟩
  rw [amaxSpec_le]
  refine (amaxHalf_le _ _ _).trans ?_
  constructor
  · rintro ⟨_, H⟩ r k
    exact ((key k ⟨r.val % 16, by omega⟩).mp (H k _)).2 r rfl
  · intro H
    have h0 : (0 : EReal) ≤ b := le_trans (mag_nonneg _) (H 0 0)
    exact ⟨h0, fun k i => (key k i).mpr ⟨h0, fun r _ => H r k⟩⟩

/-- The kernel's maxima. -/
theorem amax_apply (c : Dev nD) (h : 63 < cfg0.N) (p : Fin 2) (l : Fin 128) :
    amaxOf (F := Ideal) (accAt m c 63 h) (ix2 p l) = amaxSpec (m ((c : Thread nD τ).loc main_arg0)) ⟨128 * p.val + l.val, by omega⟩ := by
  unfold amaxOf amaxPieces
  exact (rows_apply (e := .f32) (fun p => amaxHalf (halfTiles (accAt m c 63 h) p)) p l).trans (half_eq m c h p l)

end Cert.KernelIdeal.Gen
-- ==== Proof.VHist.lean ====
/- The history's maximum. -/
module

public import proofs.«01_k».proof.Proof.VAmax
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

/-- The history's column a step writes: the step modulo 1024. -/
def colIx (st : BitVec 32) : BitVec 32 := if (st.srem 1024#32).slt 0#32 then st.srem 1024#32 + 1024#32 else st.srem 1024#32

/-- The remainder by 1024 as a signed remainder of words. -/
theorem remsi_1024 (u : ArithUnit) (st : BitVec 32) : IntOp.remsi u st 1024#32 = st.srem 1024#32 := by
  unfold IntOp.remsi
  rw [if_neg]
  unfold IntOp.SDivCorner
  simp

/-- The column a step writes is one of the history's. -/
theorem colIx_lt (st : BitVec 32) : ∃ j : Fin 1024, colIx st = BitVec.ofNat 32 j.val := by
  have h1 : (st.srem 1024#32).toInt = st.toInt.tmod 1024 := by
    rw [BitVec.toInt_srem]; rfl
  have h2 := Int.tmod_lt_of_pos st.toInt (b := 1024) (by norm_num)
  have h3 : -1024 < st.toInt.tmod 1024 := Int.lt_tmod_of_pos st.toInt (b := 1024) (by norm_num)
  rw [← h1] at h2 h3
  unfold colIx
  generalize st.srem 1024#32 = x at h2 h3 ⊢
  have hc := BitVec.toInt_eq_toNat_cond x
  have hx := x.isLt
  by_cases hs : x.slt 0#32
  · rw [if_pos hs]
    have hneg : x.toInt < 0 := by simpa [BitVec.slt] using hs
    refine ⟨⟨(x.toNat + 1024) % 2 ^ 32, ?_⟩, ?_⟩
    · split at hc <;> omega
    · apply BitVec.eq_of_toNat_eq
      rw [BitVec.toNat_add, BitVec.toNat_ofNat]
      show (x.toNat + 1024) % 2 ^ 32 = (x.toNat + 1024) % 2 ^ 32 % 2 ^ 32
      omega
  · rw [if_neg hs]
    have hpos : 0 ≤ x.toInt := by simpa [BitVec.slt] using hs
    refine ⟨⟨x.toNat, ?_⟩, ?_⟩
    · split at hc <;> omega
    · apply BitVec.eq_of_toNat_eq
      rw [BitVec.toNat_ofNat]
      dsimp only
      omega

/-- A choice by an equality of words. -/
theorem select_eq {α : Type} (a b : BitVec 32) (x y : α) : Scalar.select (IntOp.cmpi CmpIPredicate.eq a b) x y = if a = b then x else y := by
  by_cases h : a = b
  · subst h; simp [IntOp.cmpi, Scalar.select]
  · have hb : (a == b) = false := beq_false_of_ne h
    simp [IntOp.cmpi, Scalar.select, h, hb]

/-- A choice by the sign of a word. -/
theorem select_slt {α : Type} (a b : BitVec 32) (x y : α) : Scalar.select (IntOp.cmpi CmpIPredicate.slt a b) x y = if a.slt b then x else y := by
  by_cases h : a.slt b
  · simp [IntOp.cmpi, Scalar.select, h]
  · simp [IntOp.cmpi, Scalar.select, h]

/-- The kernel's column. -/
theorem col_kernel (st : BitVec 32) : Scalar.select (Scalar.cmpi CmpIPredicate.slt (Scalar.remsi st 1024#32) 0#32)
    (Scalar.addi (Scalar.remsi st 1024#32) 1024#32) (Scalar.remsi st 1024#32) = colIx st := by
  show Scalar.select (IntOp.cmpi CmpIPredicate.slt (IntOp.remsi .scalar st 1024#32) 0#32) (IntOp.remsi .scalar st 1024#32 + 1024#32) (IntOp.remsi .scalar st 1024#32) = _
  rw [select_slt, remsi_1024]
  rfl

/-- An entry of the history, or nothing at the step's column. -/
def histAt (h : S256x1024.Idx → EReal) (st : BitVec 32) (n : Fin 256) (k : ℕ) : EReal :=
  if hk : k < 1024 then (if BitVec.ofNat 32 k = colIx st then ⊥ else h (ix2 n ⟨k, hk⟩)) else ⊥

/-- The maximum of one tensor's history without the step's column. -/
def histSpec (h : S256x1024.Idx → EReal) (st : BitVec 32) (n : Fin 256) : EReal := ⨆ j : Fin 1024, histAt h st n j.val

/-- The history with its oldest column left out, inside its bounds. -/
theorem histAt_of_lt (h : S256x1024.Idx → EReal) (st : BitVec 32) (n : Fin 256) (k : ℕ) (hk : k < 1024) :
    histAt h st n k = Scalar.select (IntOp.cmpi CmpIPredicate.eq (BitVec.ofNat 32 k) (colIx st)) (Ideal.ofBits FTy.f32 0xFF800000#32) (h (ix2 n ⟨k, hk⟩)) := by
  rw [select_eq, negInf_f32]
  unfold histAt
  rw [dif_pos hk]

/-- One row of the history folded to 128 columns. -/
theorem fold128 (st : Elt Ideal .i32) (h : FVec Ideal S256x1024 .f32) (n : Fin 256) (l : Fin 128) (b : EReal) :
    k0_pay113 (F := Ideal) (k0_pay32 st) h (ix2 n l) ≤ b ↔ ∀ q : Fin 8, histAt h st n (128 * q.val + l.val) ≤ b := by
  pointwise [k0_pay113, k0_pay32]
  simp only [col_kernel]
  rw [← histAt_of_lt h st n l.val, ← histAt_of_lt h st n (128 + l.val), ← histAt_of_lt h st n (256 + l.val), ← histAt_of_lt h st n (384 + l.val), ← histAt_of_lt h st n (512 + l.val),
    ← histAt_of_lt h st n (640 + l.val), ← histAt_of_lt h st n (768 + l.val), ← histAt_of_lt h st n (896 + l.val)]
  simp only [max_le_iff]
  constructor
  · rintro ⟨⟨⟨⟨⟨⟨⟨h0, h1⟩, h2⟩, h3⟩, h4⟩, h5⟩, h6⟩, h7⟩ ⟨q, hq⟩
    interval_cases q
    · exact (Nat.zero_add l.val).symm ▸ h0
    · exact h1
    · exact h2
    · exact h3
    · exact h4
    · exact h5
    · exact h6
    · exact h7
  · intro H
    exact ⟨⟨⟨⟨⟨⟨⟨Nat.zero_add l.val ▸ H 0, H 1⟩, H 2⟩, H 3⟩, H 4⟩, H 5⟩, H 6⟩, H 7⟩

/-- The whole row. -/
theorem fold_all (st : Elt Ideal .i32) (h : FVec Ideal S256x1024 .f32) (n : Fin 256) :
    Finset.fold max (Ideal.ofBits FTy.f32 0xFF800000#32) (fun x : Fin 128 => k0_pay113 (F := Ideal) (k0_pay32 st) h (ix2 n x)) Finset.univ = histSpec h st n := by
  refine eq_of_forall_ge_iff fun b => ?_
  rw [Finset.fold_max_le, negInf_f32]
  unfold histSpec
  simp only [bot_le, true_and, Finset.mem_univ, forall_const, iSup_le_iff]
  constructor
  · intro H j
    have := (fold128 st h n ⟨j.val % 128, by omega⟩ b).mp (H _) ⟨j.val / 128, by omega⟩
    dsimp only at this
    rwa [Nat.div_add_mod] at this
  · intro H x
    exact (fold128 st h n x b).mpr fun q => H ⟨128 * q.val + x.val, by omega⟩

/-- The history maximum the kernel keeps. -/
theorem hmaxOf_apply (st : Elt Ideal .i32) (h : FVec Ideal S256x1024 .f32) (p : Fin 2) (l : Fin 128) :
    hmaxOf (F := Ideal) st h (ix2 p l) = histSpec h st ⟨128 * p.val + l.val, by omega⟩ := by
  have h1 : k0_pay115 (F := Ideal) (k0_pay32 st) h (ix2 0 l) = histSpec h st ⟨128 + l.val, by omega⟩ := by
    rw [← fold_all]
    pointwise [k0_pay115]
  have h0 : k0_pay114 (F := Ideal) (k0_pay32 st) h (ix2 0 l) = histSpec h st ⟨l.val, by omega⟩ := by
    rw [← fold_all]
    pointwise [k0_pay114]
  have key := rows_apply (e := .f32) (fun p => if p = 1 then k0_pay115 (F := Ideal) (k0_pay32 st) h else k0_pay114 (F := Ideal) (k0_pay32 st) h) p l
  have e1 : (if (1 : Fin 2) = 1 then k0_pay115 (F := Ideal) (k0_pay32 st) h else k0_pay114 (F := Ideal) (k0_pay32 st) h) = k0_pay115 (F := Ideal) (k0_pay32 st) h := if_pos rfl
  have e0 : (if (0 : Fin 2) = 1 then k0_pay115 (F := Ideal) (k0_pay32 st) h else k0_pay114 (F := Ideal) (k0_pay32 st) h) = k0_pay114 (F := Ideal) (k0_pay32 st) h := if_neg (by decide)
  rw [e1, e0] at key
  unfold hmaxOf hmaxPieces
  refine key.trans ?_
  by_cases hp : p = 1
  · have hv : p.val = 1 := congrArg Fin.val hp
    rw [if_pos hp, h1]
    exact congrArg (histSpec h st) (Fin.ext (by dsimp only; omega))
  · have hv : p.val = 0 := by
      have : p.val ≠ 1 := fun h => hp (Fin.ext h)
      omega
    rw [if_neg hp, h0]
    exact congrArg (histSpec h st) (Fin.ext (by dsimp only; omega))

end Cert.KernelIdeal.Gen
-- ==== Proof.PPow.lean ====
/- Powers of two by their exponent field, and the search for the exponent field of a value. -/
module

public import Idealize.ShloMosaic.Lib.Pipeline.ValueKit

@[expose] public section

set_option maxRecDepth 16384

noncomputable section

namespace Cert.Pow2

open Idealize.ShloMosaic

/-- The value of an exponent field with zero fraction: zero, a power of two, infinity. -/
def g (c : ℕ) : EReal := if c = 0 then 0 else if 255 ≤ c then ⊤ else (((2 : ℝ) ^ ((c : ℤ) - 127) : ℝ) : EReal)

/-- Exponent field 0 with no mantissa is zero. -/
theorem g_zero : g 0 = 0 := by simp [g]

/-- Exponent field 255 with no mantissa is infinity. -/
theorem g_top : g 255 = ⊤ := by simp [g]

/-- Any other exponent field with no mantissa is a power of two. -/
theorem g_mid (c : ℕ) (h1 : 0 < c) (h2 : c < 255) : g c = (((2 : ℝ) ^ ((c : ℤ) - 127) : ℝ) : EReal) := by
  unfold g
  rw [if_neg (by omega), if_neg (by omega)]

/-- A larger exponent field gives a larger value. -/
theorem g_mono (c d : ℕ) (h : c ≤ d) : g c ≤ g d := by
  by_cases hd : 255 ≤ d
  · have : g d = ⊤ := by
      unfold g; rw [if_neg (by omega), if_pos hd]
    rw [this]; exact le_top
  · by_cases hc : c = 0
    · subst hc
      rw [g_zero]
      by_cases hd0 : d = 0
      · subst hd0; rw [g_zero]
      · rw [g_mid d (by omega) (by omega)]
        exact EReal.coe_nonneg.mpr (by positivity)
    · rw [g_mid c (by omega) (by omega), g_mid d (by omega) (by omega)]
      exact EReal.coe_le_coe_iff.mpr (zpow_le_zpow_right₀ (by norm_num) (by omega))

/-- Exponent fields below 255 give finite values. -/
theorem g_lt_top (c : ℕ) (h : c < 255) : g c < ⊤ := by
  by_cases hc : c = 0
  · subst hc; rw [g_zero]; exact EReal.coe_lt_top 0
  · rw [g_mid c (by omega) h]; exact EReal.coe_lt_top _

/-- A small number shifted left by 23 places has sign bit 0, that number as exponent field, and mantissa 0. -/
theorem fields : ∀ c : Fin 256, ((BitVec.ofNat 32 c.val <<< 23).extractLsb' 31 1 == 1#1) = false ∧ ((BitVec.ofNat 32 c.val <<< 23).extractLsb' 23 8).toNat = c.val
    ∧ ((BitVec.ofNat 32 c.val <<< 23).extractLsb' 0 23).toNat = 0 := by
  decide +kernel

/-- The pattern with an exponent field and zero fraction denotes its value. -/
theorem ofBits_g (c : ℕ) (h : c < 256) : Ideal.ofBits .f32 (BitVec.ofNat 32 c <<< 23) = g c := by
  obtain ⟨f1, f2, f3⟩ := fields ⟨c, h⟩
  dsimp only at f1 f2 f3
  show Ideal.ieee 8 23 (w := 32) (BitVec.ofNat 32 c <<< 23) = g c
  unfold Ideal.ieee
  dsimp only
  have f1' : (BitVec.extractLsb' (8 + 23) 1 (BitVec.ofNat 32 c <<< 23) == 1#1) = false := f1
  rw [f2, f3, f1']
  unfold g
  by_cases hc : c = 0
  · subst hc
    norm_num
  · by_cases ht : c = 255
    · subst ht
      norm_num
    · have e1 : ¬ c = 2 ^ 8 - 1 := by norm_num; omega
      have e2 : ¬ 255 ≤ c := by omega
      have e : ((c : ℤ) - 127 : ℤ) = 23 + ((c : ℤ) - (2 ^ (8 - 1) - 1) - 23) := by norm_num
      rw [if_neg e1, if_neg hc, if_neg hc, if_neg e2, e, zpow_add₀ (by norm_num)]
      norm_num

/-- What a power of two from its exponent is: the reference's powers. -/
theorem pow_g (k : ℕ) (h : k < 254) : Ideal.pow (Ideal.ofBits .f32 0x40000000#32) ((((k : ℝ) : EReal)) - Ideal.ofBits .f32 0x42FC0000#32) = g (k + 1) := by
  have h2 : Ideal.ofBits .f32 0x40000000#32 = ((2 : ℝ) : EReal) := by
    simp [Ideal.ofBits, Ideal.ieee, -EReal.coe_mul]; norm_num
  have h3 : Ideal.ofBits .f32 0x42FC0000#32 = ((126 : ℝ) : EReal) := by
    simp [Ideal.ofBits, Ideal.ieee, -EReal.coe_mul]; norm_num
  rw [h2, h3, g_mid (k + 1) (by omega) (by omega), ← EReal.coe_sub]
  show ((Real.rpow 2 ((k : ℝ) - 126) : ℝ) : EReal) = _
  congr 1
  have : ((k : ℝ) - 126) = (((k + 1 : ℕ) : ℤ) - 127 : ℤ) := by push_cast; ring
  rw [this]
  exact Real.rpow_intCast 2 _

/-- One bit of the search: set where the value is still at least that power of two. -/
def bit (y : EReal) (b e : BitVec 32) : BitVec 32 := if Ideal.ofBits .f32 ((e + b) <<< 23) ≤ y then e + b else e

/-- What the search knows with `k` bits to go. -/
def Known (y : EReal) (k : ℕ) (e : BitVec 32) : Prop :=
  ∃ n, e = BitVec.ofNat 32 n ∧ n + 2 ^ k ≤ 256 ∧ g n ≤ y ∧ ∀ c, n + 2 ^ k ≤ c → c < 256 → y < g c

/-- One step of the search settles one more bit of the exponent field. -/
theorem known_bit (y : EReal) (k : ℕ) (e : BitVec 32) (h : Known y (k + 1) e) : Known y k (bit y (BitVec.ofNat 32 (2 ^ k)) e) := by
  obtain ⟨n, rfl, hn, hy, hc⟩ := h
  have hp : 2 ^ (k + 1) = 2 ^ k + 2 ^ k := by ring
  have hpos : 0 < 2 ^ k := by positivity
  have e1 : BitVec.ofNat 32 n + BitVec.ofNat 32 (2 ^ k) = BitVec.ofNat 32 (n + 2 ^ k) := (BitVec.ofNat_add n (2 ^ k)).symm
  unfold bit
  rw [e1, ofBits_g _ (by omega)]
  by_cases hle : g (n + 2 ^ k) ≤ y
  · rw [if_pos hle]
    exact ⟨n + 2 ^ k, rfl, by omega, hle, fun c h1 h2 => hc c (by omega) h2⟩
  · rw [if_neg hle]
    exact ⟨n, rfl, by omega, hy, fun c h1 h2 => lt_of_lt_of_le (not_le.mp hle) (g_mono _ _ h1)⟩

/-- The search over eight bits. -/
def search (y : EReal) : BitVec 32 :=
  bit y 1#32 (bit y 2#32 (bit y 4#32 (bit y 8#32 (bit y 16#32 (bit y 32#32 (bit y 64#32 (bit y 128#32 0#32)))))))

/-- The search finds the exponent field of a value that is not negative. -/
theorem search_spec (y : EReal) (hy : 0 ≤ y) : ∃ n, n < 256 ∧ search y = BitVec.ofNat 32 n ∧ g n ≤ y ∧ ∀ c, n < c → c < 256 → y < g c := by
  have h8 : Known y 8 0#32 := ⟨0, rfl, by norm_num, by rw [g_zero]; exact hy, fun c h1 h2 => absurd h1 (by norm_num; omega)⟩
  obtain ⟨n, h1, h2, h3, h4⟩ := known_bit y 0 _ (known_bit y 1 _ (known_bit y 2 _ (known_bit y 3 _ (known_bit y 4 _ (known_bit y 5 _ (known_bit y 6 _ (known_bit y 7 _ h8)))))))
  exact ⟨n, by omega, h1, h3, fun c hc => h4 c (by omega)⟩

/-- The new scale of a value: one below the normal powers of two and at infinity, otherwise the least power of two above it. -/
def scaleOf (y : EReal) : EReal := if y < g 1 ∨ y = ⊤ then 1 else ⨅ k : Fin 254, if y < g (k.val + 1) then g (k.val + 1) else ⊤

/-- The new scale by the exponent field. -/
theorem scaleOf_eq (y : EReal) (n : ℕ) (hn : n < 256) (h1 : g n ≤ y) (h2 : ∀ c, n < c → c < 256 → y < g c) :
    scaleOf y = if n = 0 ∨ n = 255 then 1 else g (n + 1) := by
  unfold scaleOf
  by_cases h0 : n = 0
  · rw [if_pos (Or.inl (h2 1 (by omega) (by omega))), if_pos (Or.inl h0)]
  by_cases h255 : n = 255
  · subst h255
    rw [g_top] at h1
    rw [if_pos (Or.inr (top_le_iff.mp h1)), if_pos (Or.inr rfl)]
  · have hlt := h2 (n + 1) (by omega) (by omega)
    rw [if_neg, if_neg (by omega)]
    · apply le_antisymm
      · by_cases h254 : n = 254
        · subst h254; rw [g_top]; exact le_top
        · refine iInf_le_of_le ⟨n, by omega⟩ ?_
          rw [if_pos hlt]
      · refine le_iInf fun k => ?_
        split
        · rename_i hk
          refine g_mono _ _ ?_
          by_contra hcon
          exact absurd (lt_of_lt_of_le hk ((g_mono _ _ (by omega)).trans h1)) (lt_irrefl _)
        · exact le_top
    · rintro (h | h)
      · exact absurd (lt_of_lt_of_le h ((g_mono 1 n (by omega)).trans h1)) (lt_irrefl _)
      · rw [h] at hlt
        exact absurd hlt not_top_lt

end Cert.Pow2
-- ==== Proof.VScale.lean ====
/- The kernel's new scales. -/
module

public import proofs.«01_k».proof.Proof.VHist
public import proofs.«01_k».proof.Proof.PPow
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

open Cert.Pow2

/-- A shift by 23 places as a shift of words. -/
theorem shl23 (x : BitVec 32) : IntOp.shli ArithUnit.vector x 23#32 = x <<< 23 := by
  unfold IntOp.shli
  rw [if_pos (by decide)]
  rfl

/-- One step of the kernel's search, at one lane. -/
theorem expBit_apply (y : FVec Ideal S1x128 .f32) (b : BitVec 32) (e : IVec S1x128 32) (l : Fin 128) :
    expBit (F := Ideal) y b e (ix2 0 l) = bit (y (ix2 0 l)) b (e (ix2 0 l)) := by
  pointwise [expBit]
  rw [shl23]
  rfl

/-- The exponent field is found by the search. -/
theorem expOf_apply (y : FVec Ideal S1x128 .f32) (l : Fin 128) : expOf (F := Ideal) y (ix2 0 l) = search (y (ix2 0 l)) := by
  unfold expOf search
  simp only [expBit_apply]
  rfl

/-- The reciprocal of the greatest code, rounded, is positive. -/
theorem recip_pos : (0 : EReal) < Ideal.ofBits .f32 0x3B124925#32 := by
  simp [Ideal.ofBits, Ideal.ieee, -EReal.coe_mul]

/-- Two conditions joined, as words. -/
theorem select_or3 {α : Type} (p q r : Prop) [Decidable p] [Decidable q] [Decidable r] (x y : α) :
    Scalar.select (IntOp.ori (IntOp.ori (BitVec.ofBool (decide p)) (BitVec.ofBool (decide q))) (BitVec.ofBool (decide r))) x y = if p ∨ q ∨ r then x else y := by
  by_cases hp : p <;> by_cases hq : q <;> by_cases hr : r <;> simp [hp, hq, hr, IntOp.ori, Scalar.select]

/-- The comparison for equality, as a truth value. -/
theorem cmpi_eq (a b : BitVec 32) : IntOp.cmpi CmpIPredicate.eq a b = BitVec.ofBool (decide (a = b)) := by
  by_cases h : a = b
  · subst h; simp [IntOp.cmpi]
  · have hb : (a == b) = false := beq_false_of_ne h
    simp [IntOp.cmpi, h, hb]

/-- A row of new scales. -/
theorem pow2Row_apply (a : FVec Ideal S1x128 .f32) (l : Fin 128) (ha : (0 : EReal) ≤ a (ix2 0 l)) :
    pow2Row (F := Ideal) a (ix2 0 l) = scaleOf (a (ix2 0 l) * Ideal.ofBits .f32 0x3B124925#32) := by
  unfold pow2Row
  pointwise
  have he : expOf (F := Ideal) (mulf a (broadcast S1x128 (Ideal.ofBits FTy.f32 0x3B124925#32))) (ix2 0 l) = search (a (ix2 0 l) * Ideal.ofBits .f32 0x3B124925#32) :=
    expOf_apply _ l
  rw [he, cmpi_eq, cmpi_eq, select_or3, shl23]
  have h0y : a (ix2 0 l) = 0 → a (ix2 0 l) * Ideal.ofBits .f32 0x3B124925#32 = 0 := fun h => by rw [h, zero_mul]
  have hy : 0 ≤ a (ix2 0 l) * Ideal.ofBits .f32 0x3B124925#32 := mul_nonneg ha recip_pos.le
  generalize a (ix2 0 l) * Ideal.ofBits .f32 0x3B124925#32 = y at h0y hy ⊢
  obtain ⟨n, hn, hs, h1, h2⟩ := search_spec y hy
  rw [scaleOf_eq y n hn h1 h2, hs]
  have c0 : BitVec.ofNat 32 n = 0#32 ↔ n = 0 := by
    constructor
    · intro h
      have := congrArg BitVec.toNat h
      simp only [BitVec.toNat_ofNat] at this
      omega
    · rintro rfl; rfl
  have c255 : BitVec.ofNat 32 n = 255#32 ↔ n = 255 := by
    constructor
    · intro h
      have := congrArg BitVec.toNat h
      simp only [BitVec.toNat_ofNat] at this
      omega
    · rintro rfl; rfl
  have hz : a (ix2 0 l) = 0 → n = 0 := by
    intro h
    by_contra hne
    have : g 1 ≤ 0 := ((g_mono 1 n (by omega)).trans h1).trans (h0y h).le
    rw [g_mid 1 (by norm_num) (by norm_num)] at this
    have h3 : ((2 : ℝ) ^ (((1 : ℕ) : ℤ) - 127)) ≤ 0 := EReal.coe_nonpos.mp this
    have h4 : (0 : ℝ) < (2 : ℝ) ^ (((1 : ℕ) : ℤ) - 127) := by positivity
    linarith
  by_cases hd : n = 0 ∨ n = 255
  · rw [if_pos hd, if_pos (Or.inr (hd.imp c0.mpr c255.mpr))]
  · rw [if_neg hd, if_neg (by
      rintro (h | h | h)
      · exact hd (Or.inl (hz h))
      · exact hd (Or.inl (c0.mp h))
      · exact hd (Or.inr (c255.mp h)))]
    show Ideal.ofBits .f32 ((BitVec.ofNat 32 n + BitVec.ofNat 32 1) <<< 23) = _
    rw [← BitVec.ofNat_add]
    exact ofBits_g (n + 1) (by omega)

variable (m : (ℓ : Loc nD τ sig) → Buf (Elt Ideal) ℓ)

/-- A tensor's maximum is not negative. -/
theorem amaxSpec_nonneg (a0 : S2x8192x7168.Idx → EReal) (n : Fin 256) : 0 ≤ amaxSpec a0 n :=
  le_trans (mag_nonneg _) ((amaxSpec_le a0 n _).mp le_rfl 0 0)

/-- The new scale of a tensor: from the maximum of its magnitude and of its history without the step's column. -/
def scaleSpec (a0 : S2x8192x7168.Idx → EReal) (h : S256x1024.Idx → EReal) (st : BitVec 32) (n : Fin 256) : EReal :=
  scaleOf (max (amaxSpec a0 n) (histSpec h st n) * Ideal.ofBits .f32 0x3B124925#32)

/-- The kernel's new scales. -/
theorem scale_apply (c : Dev nD) (h : 63 < cfg0.N) (p : Fin 2) (l : Fin 128) :
    newScaleOf (F := Ideal) (accAt m c 63 h) (hmaxV m c) (ix2 p l)
      = scaleSpec (m ((c : Thread nD τ).loc main_arg0)) (m ((c : Thread nD τ).loc main_arg1)) (m ((c : Thread nD τ).loc main_arg3) ix0) ⟨128 * p.val + l.val, by omega⟩ := by
  have hh : hmaxV m c = hmaxOf (F := Ideal) (m ((c : Thread nD τ).loc main_arg3) ix0) (m ((c : Thread nD τ).loc main_arg1)) := by
    unfold hmaxV hmaxB
    have e0 : View.ld (Val := Elt Ideal) (e' := EltTy.i32) (iblk m c 0 pt0) rT (Shape.Idx.first (by decide)) = m ((c : Thread nD τ).loc main_arg3) ix0 := by
      exact iblk0_apply m c pt0 _
    have e2 : View.ld (Val := Elt Ideal) (e' := EltTy.f32) (iblk m c 2 pt0) rH = m ((c : Thread nD τ).loc main_arg1) := by
      rw [iblk2_eq]
      funext j
      show m _ _ = m _ _
      congr 1
      funext a
      apply Fin.ext
      match a with
      | ⟨0, _⟩ => show 0 + 1 * (j 0).val = (j 0).val; omega
      | ⟨1, _⟩ => show 0 + 1 * (j 1).val = (j 1).val; omega
    rw [e0]
    exact congrArg (hmaxOf (F := Ideal) _) e2
  rw [hh]
  generalize m ((c : Thread nD τ).loc main_arg3) ix0 = st
  unfold newScaleOf scalePieces
  have key := rows_apply (e := .f32) (fun p => pow2Row (F := Ideal) (maximumf (amaxHalf (halfTiles (accAt m c 63 h) p)) (View.ld (hmaxOf (F := Ideal) st (m ((c : Thread nD τ).loc main_arg1))) (rR p)))) p l
  refine key.trans ?_
  have hr : View.ld (Val := Elt Ideal) (e' := EltTy.f32) (hmaxOf (F := Ideal) st (m ((c : Thread nD τ).loc main_arg1))) (rR p) (ix2 0 l) = histSpec (m ((c : Thread nD τ).loc main_arg1)) st ⟨128 * p.val + l.val, by omega⟩ := by
    rw [← hmaxOf_apply]
    have e1 : (rR p).emb (ix2 0 l) = (ix2 p l : S2x128.Idx) := by
      funext a
      apply Fin.ext
      match a with
      | ⟨0, _⟩ => show p.val + 1 * 0 = p.val; omega
      | ⟨1, _⟩ => show 0 + 1 * l.val = l.val; omega
    exact congrArg (hmaxOf (F := Ideal) st (m ((c : Thread nD τ).loc main_arg1))) e1
  have hv : maximumf (F := Ideal) (amaxHalf (halfTiles (accAt m c 63 h) p)) (View.ld (hmaxOf (F := Ideal) st (m ((c : Thread nD τ).loc main_arg1))) (rR p)) (ix2 0 l)
      = max (amaxSpec (m ((c : Thread nD τ).loc main_arg0)) ⟨128 * p.val + l.val, by omega⟩) (histSpec (m ((c : Thread nD τ).loc main_arg1)) st ⟨128 * p.val + l.val, by omega⟩) := by
    rw [← hr, ← half_eq m c h p l]
    rfl
  refine (pow2Row_apply _ l ?_).trans ?_
  · rw [hv]
    exact le_max_of_le_left (amaxSpec_nonneg _ _)
  · rw [hv]
    rfl

end Cert.KernelIdeal.Gen
-- ==== Proof.VInv.lean ====
/- The inverse scales and the codes. -/
module

public import proofs.«01_k».proof.Proof.VBlocks
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

/-- The tensor of each column, 8 rows of 128 columns at a time. -/
theorem tensorIx_apply (q : Fin 4) (r : Fin 8) (l : Fin 128) :
    tensorIx (BitVec.ofNat 32 (8 * q.val)) (ix2 r l) = BitVec.ofNat 32 (min (((8 * q.val + r.val) * 128 + l.val) / 28) 127) := by
  unfold tensorIx
  pointwise
  revert q r l
  decide +kernel

/-- 8 rows of inverse scales. -/
theorem gather8_apply (q : Fin 4) (src : FVec Ideal S8x128 .f32) (r : Fin 8) (l : Fin 128) :
    gather8 (F := Ideal) src (BitVec.ofNat 32 (8 * q.val)) (ix2 r l) = src (ix2 r ⟨min (((8 * q.val + r.val) * 128 + l.val) / 28) 127, by omega⟩) := by
  unfold gather8
  pointwise
  show src _ = src _
  congr 2
  apply Fin.ext
  dsimp only
  rw [tensorIx_apply, BitVec.toNat_ofNat]
  omega

/-- The 32 rows of inverse scales of a half. -/
theorem invHalf_apply (src : FVec Ideal S8x128 .f32) (i : Fin 32) (l : Fin 128) :
    invHalf (F := Ideal) src (ix3 0 i l) = src (ix2 ⟨i.val % 8, by omega⟩ ⟨min ((i.val * 128 + l.val) / 28) 127, by omega⟩) := by
  unfold invHalf
  pointwise
  split
  · refine (gather8_apply 0 src _ l).trans ?_
    show src _ = src _
    congr 2 <;> (apply Fin.ext; first | omega | (dsimp only; omega) | (simp; omega))
  · split
    · refine (gather8_apply 1 src _ l).trans ?_
      show src _ = src _
      congr 2 <;> (apply Fin.ext; first | omega | (dsimp only; omega) | (simp; omega))
    · split
      · refine (gather8_apply 2 src _ l).trans ?_
        show src _ = src _
        congr 2 <;> (apply Fin.ext; first | omega | (dsimp only; omega) | (simp; omega))
      · refine (gather8_apply 3 src _ l).trans ?_
        show src _ = src _
        congr 2 <;> (apply Fin.ext; first | omega | (dsimp only; omega) | (simp; omega))

/-- 8 copies of a half's inverse scales. -/
theorem src1 (sc : FVec Ideal S2x128 .f32) (r : Fin 8) (l : Fin 128) : k0_pay14 (F := Ideal) (k0_pay4 sc) (ix2 r l) = Ideal.div 1 (sc (ix2 1 l)) := by
  pointwise [k0_pay14, k0_pay4, k0_pay3]

/-- Before spreading, each of the eight rows holds the inverse scales of the first half. -/
theorem src0 (sc : FVec Ideal S2x128 .f32) (r : Fin 8) (l : Fin 128) : k0_pay5 (F := Ideal) sc (ix2 r l) = Ideal.div 1 (sc (ix2 0 l)) := by
  pointwise [k0_pay5, k0_pay4, k0_pay3]

/-- The inverse scale of each column of a half. -/
theorem invOf_apply (sc : FVec Ideal S2x128 .f32) (p : Fin 2) (i : Fin 32) (l : Fin 128) :
    invOf (F := Ideal) sc (ix3 p i l) = Ideal.div 1 (sc (ix2 p ⟨min ((i.val * 128 + l.val) / 28) 127, by omega⟩)) := by
  have e1 : (ix3 p i l : S2x32x128.Idx) = (rV p).emb (ix3 0 i l) := by
    funext a
    apply Fin.ext
    match a with
    | ⟨0, _⟩ => show p.val = p.val + 1 * 0; omega
    | ⟨1, _⟩ => show i.val = 0 + 1 * i.val; omega
    | ⟨2, _⟩ => show l.val = 0 + 1 * l.val; omega
  rw [e1]
  refine View.canon_eq_of_allAt _ _ _ (cover_inv (F := Ideal) sc _) ?_
  have h1 := (invHalf_apply (k0_pay14 (F := Ideal) (k0_pay4 sc)) i l).trans (src1 sc _ _)
  have h0 := (invHalf_apply (k0_pay5 (F := Ideal) sc) i l).trans (src0 sc _ _)
  have key : ∀ (k : Fin 2) (f : S1x32x128.Idx → EReal), (f (ix3 0 i l) = Ideal.div 1 (sc (ix2 k ⟨min ((i.val * 128 + l.val) / 28) 127, by omega⟩))) →
      ∀ w : S1x32x128.Idx, (rV k).emb w = (rV p).emb (ix3 0 i l) → f w = Ideal.div 1 (sc (ix2 p ⟨min ((i.val * 128 + l.val) / 28) 127, by omega⟩)) := by
    intro k f hf w hw
    have h0 : k.val + 1 * (w 0).val = p.val + 1 * 0 := congrArg (fun y : S2x32x128.Idx => (y 0).val) hw
    have b0 : (w 0).val < 1 := (w 0).isLt
    have hk : k = p := Fin.ext (by omega)
    subst hk
    rw [(rV k).emb.injective hw]
    exact hf
  intro q hq
  rcases List.mem_cons.mp hq with rfl | hq
  · exact key 1 _ h1
  · rcases List.mem_cons.mp hq with rfl | hq
    · exact key 0 _ h0
    · cases hq

/-- A block's codes: the product with the inverse scale of the column's tensor, clipped. -/
theorem codesOf_apply (x : FVec Ideal S256x7168 .bf16) (sc : FVec Ideal S2x128 .f32) (i : Fin 256) (j : Fin 7168) :
    codesOf (F := Ideal) x (invOf sc) (ix2 i j)
      = min (Ideal.ofBits .f32 0x43E00000#32) (max (Ideal.ofBits .f32 0xC3E00000#32) (x (ix2 i j) * Ideal.div 1 (sc (ix2 ⟨j.val / 3584, by omega⟩ ⟨j.val % 3584 / 28, by omega⟩)))) := by
  have hj : j.val / 128 < 56 := by omega
  have e1 : (ix2 i j : S256x7168.Idx) = (rX ⟨j.val / 128, hj⟩).emb (ix2 i ⟨j.val % 128, by omega⟩) := by
    funext a
    apply Fin.ext
    match a with
    | ⟨0, _⟩ => show i.val = 0 + 1 * i.val; omega
    | ⟨1, _⟩ => show j.val = 128 * (j.val / 128) + 1 * (j.val % 128); omega
  have hx : View.ld (Val := Elt Ideal) (e' := EltTy.bf16) x (rX ⟨j.val / 128, hj⟩) (ix2 i ⟨j.val % 128, by omega⟩) = x (ix2 i j) := by
    show x _ = x _
    exact congrArg x e1.symm
  have hs : View.ld (Val := Elt Ideal) (e' := EltTy.f32) (invOf (F := Ideal) sc) (rI ⟨j.val / 128, hj⟩) (ix3 0 0 ⟨j.val % 128, by omega⟩) = Ideal.div 1 (sc (ix2 ⟨j.val / 3584, by omega⟩ ⟨j.val % 3584 / 28, by omega⟩)) := by
    have e2 : (rI ⟨j.val / 128, hj⟩).emb (ix3 0 0 ⟨j.val % 128, by omega⟩) = (ix3 ⟨j.val / 3584, by omega⟩ ⟨j.val / 128 % 28, by omega⟩ ⟨j.val % 128, by omega⟩ : S2x32x128.Idx) := by
      funext a
      apply Fin.ext
      match a with
      | ⟨0, _⟩ => show j.val / 128 / 28 + 1 * 0 = j.val / 3584; omega
      | ⟨1, _⟩ => show j.val / 128 % 28 + 1 * 0 = j.val / 128 % 28; omega
      | ⟨2, _⟩ => show 0 + 1 * (j.val % 128) = j.val % 128; omega
    refine (congrArg (invOf (F := Ideal) sc) e2).trans ((invOf_apply sc _ _ _).trans ?_)
    congr 3
    apply Fin.ext
    show min ((j.val / 128 % 28 * 128 + j.val % 128) / 28) 127 = j.val % 3584 / 28
    omega
  rw [e1]
  refine (View.canon_eq_of_allAt _ _ (codeTile (F := Ideal) (View.ld x (rX ⟨j.val / 128, hj⟩)) (View.ld (invOf sc) (rI ⟨j.val / 128, hj⟩)) (ix2 i ⟨j.val % 128, by omega⟩)) (cover_codes (F := Ideal) x _ _) ?_).trans ?_
  · intro p hp
    obtain ⟨k, rfl⟩ := List.mem_ofFn.mp (List.mem_reverse.mp hp)
    intro w hw
    have h1 : 128 * k.val + 1 * (w 1).val = 128 * (j.val / 128) + 1 * (j.val % 128) := congrArg (fun y : S256x7168.Idx => (y 1).val) hw
    have b1 : (w 1).val < 128 := (w 1).isLt
    have hk : k = ⟨j.val / 128, hj⟩ := Fin.ext (by dsimp only; omega)
    subst hk
    rw [(rX _).emb.injective hw]
  · refine (codeTile_apply _ _ _ _).trans ?_
    rw [hs, hx, ← e1]

end Cert.KernelIdeal.Gen
-- ==== Proof.VOut.lean ====
/- The result arrays. -/
module

public import proofs.«01_k».proof.Proof.VScale
public import proofs.«01_k».proof.Proof.VInv
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.ShloMosaic.View (canon)

variable (m : (ℓ : Loc nD τ sig) → Buf (Elt Ideal) ℓ)

/-- A code: the product with the inverse scale of the column's tensor, clipped. -/
def codeSpec (a0 : S2x8192x7168.Idx → EReal) (sc : S256.Idx → EReal) (r : Fin 16384) (j : Fin 7168) : EReal :=
  min (Ideal.ofBits .f32 0x43E00000#32) (max (Ideal.ofBits .f32 0xC3E00000#32) (xAt a0 r j * Ideal.div 1 (sc (ix1 ⟨j.val / 28, by omega⟩))))

/-- The scales, two rows of 128. -/
theorem scaleV_apply (c : Dev nD) (p : Fin 2) (l : Fin 128) :
    scaleV m c (ix2 p l) = m ((c : Thread nD τ).loc main_arg2) (ix1 ⟨p.val * 128 + l.val, by omega⟩) := by
  rw [← iblk3_apply m c pt0 p l]
  have e1 : rS.emb (ix2 p l) = (ix2 p l : S2x128.Idx) := by
    funext a
    apply Fin.ext
    match a with
    | ⟨0, _⟩ => show 0 + 1 * p.val = p.val; omega
    | ⟨1, _⟩ => show 0 + 1 * l.val = l.val; omega
  exact congrArg (iblk m c 3 pt0) e1

/-- A tensor's number, from its place in two rows of 128. -/
def rowIx (i : S2x128.Idx) : Fin 256 := ⟨128 * (i 0).val + (i 1).val, by
  have h0 : (i 0).val < 2 := (i 0).isLt
  have h1 : (i 1).val < 128 := (i 1).isLt
  omega⟩

/-- The codes array after the run. -/
theorem codes_final (c : Dev nD) : (dats m 0 c).arrAt 4 (cfgs 0).N
    = fun i : S16384x7168.Idx => codeSpec (m ((c : Thread nD τ).loc main_arg0)) (m ((c : Thread nD τ).loc main_arg2)) (i 0) (i 1) := by
  refine (dats m 0 c).arrAt_eq_of_covers 4 _ (by decide +kernel) fun t _ y => ?_
  have ht : t.val < 64 := t.isLt
  blk_simp
  rw [after0_4]
  idx_vars y
  unfold invV
  refine (codesOf_apply _ _ _ _).trans ?_
  have e0 : ((View.whole main_v3_0).slice (win0_4.rect t)).emb (ix2 y0 y1) 0 = (⟨t.val * 256 + y0.val, by omega⟩ : Fin 16384) := by
    apply Fin.ext
    blk_simp [idx t]
  have e1 : ((View.whole main_v3_0).slice (win0_4.rect t)).emb (ix2 y0 y1) 1 = (y1 : Fin 7168) := by
    apply Fin.ext
    blk_simp [idx t]
  rw [e0, e1, iblk1_apply m c t y0 y1 (by omega), scaleV_apply]
  unfold codeSpec
  have hn : (⟨y1.val / 3584 * 128 + y1.val % 3584 / 28, by omega⟩ : Fin 256) = ⟨y1.val / 28, by omega⟩ := Fin.ext (by dsimp only; omega)
  rw [hn]

/-- The maxima array after the run. -/
theorem amax_final (c : Dev nD) : (dats m 0 c).arrAt 5 (cfgs 0).N
    = fun i : S2x128.Idx => amaxSpec (m ((c : Thread nD τ).loc main_arg0)) (rowIx i) := by
  refine (dats m 0 c).arrAt_eq_of_covers 5 _ (by decide +kernel) fun t _ y => ?_
  unfold rowIx
  blk_simp [idx t]
  rw [after0_5]
  idx_vars y
  exact amax_apply m c _ y0 y1

/-- The new scales array after the run. -/
theorem scale_final (c : Dev nD) : (dats m 0 c).arrAt 6 (cfgs 0).N
    = fun i : S2x128.Idx => scaleSpec (m ((c : Thread nD τ).loc main_arg0)) (m ((c : Thread nD τ).loc main_arg1)) (m ((c : Thread nD τ).loc main_arg3) ix0) (rowIx i) := by
  refine (dats m 0 c).arrAt_eq_of_covers 6 _ (by decide +kernel) fun t _ y => ?_
  unfold rowIx
  blk_simp [idx t]
  rw [after0_6]
  idx_vars y
  exact scale_apply m c _ y0 y1

/-- The scales in use, as the run returns them. -/
theorem used_apply (sc : FVec Ideal S2x128 .f32) (p : Fin 2) (l : Fin 128) : usedOf (F := Ideal) sc (ix2 p l) = sc (ix2 p l) := by
  unfold usedOf
  have e1 : (ix2 p l : S2x128.Idx) = rS.emb (ix2 p l) := by
    funext a
    apply Fin.ext
    match a with
    | ⟨0, _⟩ => show p.val = 0 + 1 * p.val; omega
    | ⟨1, _⟩ => show l.val = 0 + 1 * l.val; omega
  have key := View.canon_cons_emb (Val := Elt Ideal) (e := EltTy.f32) rS (k0_pay3 (F := Ideal) sc) [] (ix2 p l)
  rw [← e1] at key
  refine key.trans ?_
  pointwise [k0_pay3]

/-- The scale array returned, after the run. -/
theorem used_final (c : Dev nD) : (dats m 0 c).arrAt 7 (cfgs 0).N
    = fun i : S2x128.Idx => m ((c : Thread nD τ).loc main_arg2) (ix1 (rowIx i)) := by
  refine (dats m 0 c).arrAt_eq_of_covers 7 _ (by decide +kernel) fun t _ y => ?_
  unfold rowIx
  blk_simp [idx t]
  rw [after0_7]
  idx_vars y
  refine (used_apply _ _ _).trans ((scaleV_apply m c y0 y1).trans ?_)
  have hn : (⟨y0.val * 128 + y1.val, by omega⟩ : Fin 256) = ⟨128 * y0.val + y1.val, by omega⟩ := Fin.ext (by dsimp only; omega)
  rw [hn]

/-- The kernel's run: its four result arrays in closed form, and its arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v3_1) = (fun i : S2x128.Idx => amaxSpec (m ((c : Thread nD τ).loc main_arg0)) (rowIx i))
      ∧ r.2.mem ((c.tc : Thread nD τ).loc main_v3_2) = (fun i : S2x128.Idx => scaleSpec (m ((c : Thread nD τ).loc main_arg0)) (m ((c : Thread nD τ).loc main_arg1)) (m ((c : Thread nD τ).loc main_arg3) ix0) (rowIx i))
      ∧ r.2.mem ((c.tc : Thread nD τ).loc main_v3_0) = (fun i : S16384x7168.Idx => codeSpec (m ((c : Thread nD τ).loc main_arg0)) (m ((c : Thread nD τ).loc main_arg2)) (i 0) (i 1))
      ∧ r.2.mem ((c.tc : Thread nD τ).loc main_v3_3) = (fun i : S2x128.Idx => m ((c : Thread nD τ).loc main_arg2) (ix1 (rowIx i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2 c).1 5).trans (amax_final m c), ((h.2 c).1 6).trans (scale_final m c),
      ((h.2 c).1 4).trans (codes_final m c), ((h.2 c).1 7).trans (used_final m c), h.1 c⟩)
    (θ_run_and (unchanged m ρ) (run_main m ρ))

end Cert.KernelIdeal.Gen
-- ==== Proof.RRun.lean ====
/- The reference's run: what its region is entered with, what it leaves, and the host operations after it,
   read off as one term per result. `res_<buffer>` names a long term, `reg_<buffer>` what the region leaves. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v14` (window 1's): not opened here. -/
def reg_main_v14 (c : Dev nD) : Buf (Elt F) ((c.tc : Thread nD τ).loc main_v14) := (Gen.dats m 0 c).arrAt 1 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
set_option maxHeartbeats 2000000 in
/-- The exit contents at `main_v3`, computed before the region: its composed term of the arguments' launch contents. -/
theorem exit_main_v3 (c : Dev nD) : exitV m c (Proc.devRef .tc main_v3) = select (cmpi .slt (Host.remsi (m ((c.tc : Thread nD τ).loc main_arg3)) (constantI S_ 32 1024#32)) (constantI S_ 32 0#32)) (addi (Host.remsi (m ((c.tc : Thread nD τ).loc main_arg3)) (constantI S_ 32 1024#32)) (constantI S_ 32 1024#32)) (Host.remsi (m ((c.tc : Thread nD τ).loc main_arg3)) (constantI S_ 32 1024#32)) :=
  (Pipeline.withArrays_of_ne _ c (Gen.V0 m c) _ main_v3 (by exact (by decide : ∀ w, Pipeline.arrRef spec0 w ≠ main_v3))).trans (by
    show Gen.V0 m c (Proc.devRef .tc main_v3) = _
    simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
    after_results <;> rfl)
/-- The exit contents at the region's result array `main_v14`. -/
theorem exit_main_v14 (c : Dev nD) : exitV m c (Proc.devRef .tc main_v14) = reg_main_v14 m c :=
  Pipeline.withArrays_arr spec0 Gen.launch0.win.arr_inj c (Gen.V0 m c) _ 1

set_option maxRecDepth 8192 in
/-- `main_v48`'s composed term of the arguments and the region's results (named: it is long). -/
def res_main_v48 (c : Dev nD) : Buf (Elt F) ((c.tc : Thread nD τ).loc main_v48) :=
  shapeCast _ (select (ori (cmpf .olt (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (select (cmpi .slt (Host.remsi (m ((c.tc : Thread nD τ).loc main_arg3)) (constantI S_ 32 1024#32)) (constantI S_ 32 0#32)) (addi (Host.remsi (m ((c.tc : Thread nD τ).loc main_arg3)) (constantI S_ 32 1024#32)) (constantI S_ 32 1024#32)) (Host.remsi (m ((c.tc : Thread nD τ).loc main_arg3)) (constantI S_ 32 1024#32)))))) (broadcastInDim S256x1024 ![0, 1] bcast_S256x1_S256x1024_0_1 (broadcastInDim S256x1 ![0] bcast_S256_S256x1_0 (extf .f32 (Host.reduce FloatOps.maximumf (Host.absf (shapeCast _ (m ((c.tc : Thread nD τ).loc main_arg0)) shapeCasts_S2x8192x7168_S16384x256x28)) (constant S_ .bf16 0xFF80#16) reducesTo_S16384x256x28_S256_d0_2 h_S_) bitsLt_bf16_f32))) (m ((c.tc : Thread nD τ).loc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x00800000#32))) (cmpf .oeq (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (select (cmpi .slt (Host.remsi (m ((c.tc : Thread nD τ).loc main_arg3)) (constantI S_ 32 1024#32)) (constantI S_ 32 0#32)) (addi (Host.remsi (m ((c.tc : Thread nD τ).loc main_arg3)) (constantI S_ 32 1024#32)) (constantI S_ 32 1024#32)) (Host.remsi (m ((c.tc : Thread nD τ).loc main_arg3)) (constantI S_ 32 1024#32)))))) (broadcastInDim S256x1024 ![0, 1] bcast_S256x1_S256x1024_0_1 (broadcastInDim S256x1 ![0] bcast_S256_S256x1_0 (extf .f32 (Host.reduce FloatOps.maximumf (Host.absf (shapeCast _ (m ((c.tc : Thread nD τ).loc main_arg0)) shapeCasts_S2x8192x7168_S16384x256x28)) (constant S_ .bf16 0xFF80#16) reducesTo_S16384x256x28_S256_d0_2 h_S_) bitsLt_bf16_f32))) (m ((c.tc : Thread nD τ).loc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x7F800000#32)))) (broadcastInDim S256 ![] bcast_S_S256 (id (constant S_ .f32 0x3F800000#32))) (Host.reduce FloatOps.minimumf (select (cmpf .ogt (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![0, 1] bcast_S256x1_S256x254_0_1 (broadcastInDim S256x1 ![0] bcast_S256_S256x1_0 (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (select (cmpi .slt (Host.remsi (m ((c.tc : Thread nD τ).loc main_arg3)) (constantI S_ 32 1024#32)) (constantI S_ 32 0#32)) (addi (Host.remsi (m ((c.tc : Thread nD τ).loc main_arg3)) (constantI S_ 32 1024#32)) (constantI S_ 32 1024#32)) (Host.remsi (m ((c.tc : Thread nD τ).loc main_arg3)) (constantI S_ 32 1024#32)))))) (broadcastInDim S256x1024 ![0, 1] bcast_S256x1_S256x1024_0_1 (broadcastInDim S256x1 ![0] bcast_S256_S256x1_0 (extf .f32 (Host.reduce FloatOps.maximumf (Host.absf (shapeCast _ (m ((c.tc : Thread nD τ).loc main_arg0)) shapeCasts_S2x8192x7168_S16384x256x28)) (constant S_ .bf16 0xFF80#16) reducesTo_S16384x256x28_S256_d0_2 h_S_) bitsLt_bf16_f32))) (m ((c.tc : Thread nD τ).loc main_arg1))) (constant S_ .f32 0xFF800000#32) reducesTo_S256x1024_S256_d1 h_S_) (broadcastInDim S256 ![] bcast_S_S256 (constant S_ .f32 0x3B124925#32)))))) (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![] bcast_S_S256x254 (id (constant S_ .f32 0x7F800000#32)))) (constant S_ .f32 0x7F800000#32) reducesTo_S256x254_S256_d1 h_S_)) shapeCasts_S256_S2x128

/-- `res_main_v48` by its position among the values @main returns, 1 counting from 0: the name for hand proofs to cite, since
    a re-print renumbers `main_v48`. An abbreviation: it unfolds to the `res_main_v48` that `run` states. -/
abbrev res_out1 (c : Dev nD) : Buf (Elt F) ((c.tc : Thread nD τ).loc main_v48) := res_main_v48 m c

set_option maxRecDepth 8192 in
set_option maxHeartbeats 2000000 in
/-- The later operations from any contents `V0`, read at result `main_v47`. -/
theorem tail_main_v47 (V0 : Valuation τ sig (Elt F)) :
    after (List.flatten [Gen.hostOps1, Gen.hostOps1_1, Gen.hostOps1_2, Gen.hostOps1_3, Gen.hostOps1_4, Gen.hostOps1_5, Gen.hostOps1_6]) V0 (Proc.devRef .tc main_v47) = shapeCast _ (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32) shapeCasts_S256_S2x128 := by
  simp only [Gen.hostOps1, Gen.hostOps1_1, Gen.hostOps1_2, Gen.hostOps1_3, Gen.hostOps1_4, Gen.hostOps1_5, Gen.hostOps1_6, TRef.ternary, TRef.unary, TRef.toBuf, TRef.ofBuf, cast_eq, List.flatten_cons, List.flatten_nil, List.append_nil, List.cons_append, List.nil_append]
  after_results_simp <;> rfl
/-- Result `main_v47` after the later operations from the region's exit contents. -/
theorem fin_main_v47 (c : Dev nD) :
    Pipeline.afterTail₀ cfgs (Gen.dats m) 0 (Gen.V0 m) [Gen.hostOps1, Gen.hostOps1_1, Gen.hostOps1_2, Gen.hostOps1_3, Gen.hostOps1_4, Gen.hostOps1_5, Gen.hostOps1_6] c main_v47 = shapeCast _ (extf .f32 (Host.reduce FloatOps.maximumf (Host.absf (shapeCast _ (m ((c.tc : Thread nD τ).loc main_arg0)) shapeCasts_S2x8192x7168_S16384x256x28)) (constant S_ .bf16 0xFF80#16) reducesTo_S16384x256x28_S256_d0_2 h_S_) bitsLt_bf16_f32) shapeCasts_S256_S2x128 :=
  (tail_main_v47 (exitV m c)).trans (by rw [exit_main_arg0])

set_option maxRecDepth 8192 in
set_option maxHeartbeats 2000000 in
/-- The later operations from any contents `V0`, read at result `main_v48`. -/
theorem tail_main_v48 (V0 : Valuation τ sig (Elt F)) :
    after (List.flatten [Gen.hostOps1, Gen.hostOps1_1, Gen.hostOps1_2, Gen.hostOps1_3, Gen.hostOps1_4, Gen.hostOps1_5, Gen.hostOps1_6]) V0 (Proc.devRef .tc main_v48) = shapeCast _ (select (ori (cmpf .olt (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x00800000#32))) (cmpf .oeq (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x7F800000#32)))) (broadcastInDim S256 ![] bcast_S_S256 (id (constant S_ .f32 0x3F800000#32))) (Host.reduce FloatOps.minimumf (select (cmpf .ogt (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![0, 1] bcast_S256x1_S256x254_0_1 (broadcastInDim S256x1 ![0] bcast_S256_S256x1_0 (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32)))))) (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![] bcast_S_S256x254 (id (constant S_ .f32 0x7F800000#32)))) (constant S_ .f32 0x7F800000#32) reducesTo_S256x254_S256_d1 h_S_)) shapeCasts_S256_S2x128 := by
  simp only [Gen.hostOps1, Gen.hostOps1_1, Gen.hostOps1_2, Gen.hostOps1_3, Gen.hostOps1_4, Gen.hostOps1_5, Gen.hostOps1_6, TRef.ternary, TRef.unary, TRef.toBuf, TRef.ofBuf, cast_eq, List.flatten_cons, List.flatten_nil, List.append_nil, List.cons_append, List.nil_append]
  after_results_simp <;> rfl
/-- Result `main_v48` after the later operations from the region's exit contents. -/
theorem fin_main_v48 (c : Dev nD) :
    Pipeline.afterTail₀ cfgs (Gen.dats m) 0 (Gen.V0 m) [Gen.hostOps1, Gen.hostOps1_1, Gen.hostOps1_2, Gen.hostOps1_3, Gen.hostOps1_4, Gen.hostOps1_5, Gen.hostOps1_6] c main_v48 = res_main_v48 m c :=
  by unfold res_main_v48; exact (tail_main_v48 (exitV m c)).trans (by rw [exit_main_arg0, exit_main_arg1, exit_main_v3]; rfl)

set_option maxRecDepth 8192 in
set_option maxHeartbeats 2000000 in
/-- The later operations from any contents `V0`, read at result `main_v49`. -/
theorem tail_main_v49 (V0 : Valuation τ sig (Elt F)) :
    after (List.flatten [Gen.hostOps1, Gen.hostOps1_1, Gen.hostOps1_2, Gen.hostOps1_3, Gen.hostOps1_4, Gen.hostOps1_5, Gen.hostOps1_6]) V0 (Proc.devRef .tc main_v49) = shapeCast _ (V0 (Proc.devRef .tc main_arg2)) shapeCasts_S256_S2x128 := by
  simp only [Gen.hostOps1, Gen.hostOps1_1, Gen.hostOps1_2, Gen.hostOps1_3, Gen.hostOps1_4, Gen.hostOps1_5, Gen.hostOps1_6, TRef.ternary, TRef.unary, TRef.toBuf, TRef.ofBuf, cast_eq, List.flatten_cons, List.flatten_nil, List.append_nil, List.cons_append, List.nil_append]
  after_results_simp <;> rfl
/-- Result `main_v49` after the later operations from the region's exit contents. -/
theorem fin_main_v49 (c : Dev nD) :
    Pipeline.afterTail₀ cfgs (Gen.dats m) 0 (Gen.V0 m) [Gen.hostOps1, Gen.hostOps1_1, Gen.hostOps1_2, Gen.hostOps1_3, Gen.hostOps1_4, Gen.hostOps1_5, Gen.hostOps1_6] c main_v49 = shapeCast _ (m ((c.tc : Thread nD τ).loc main_arg2)) shapeCasts_S256_S2x128 :=
  (tail_main_v49 (exitV m c)).trans (by rw [exit_main_arg2])

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v47) = shapeCast _ (extf .f32 (Host.reduce FloatOps.maximumf (Host.absf (shapeCast _ (m ((c.tc : Thread nD τ).loc main_arg0)) shapeCasts_S2x8192x7168_S16384x256x28)) (constant S_ .bf16 0xFF80#16) reducesTo_S16384x256x28_S256_d0_2 h_S_) bitsLt_bf16_f32) shapeCasts_S256_S2x128
      ∧ r.2.mem ((c.tc : Thread nD τ).loc main_v48) = res_main_v48 m c
      ∧ r.2.mem ((c.tc : Thread nD τ).loc main_v14) = reg_main_v14 m c
      ∧ r.2.mem ((c.tc : Thread nD τ).loc main_v49) = shapeCast _ (m ((c.tc : Thread nD τ).loc main_arg2)) shapeCasts_S256_S2x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v47 (Pipeline.mem_restRefs_of main_v47 (by decide) (by decide))).trans (fin_main_v47 m c),
      ((h c).2 main_v48 (Pipeline.mem_restRefs_of main_v48 (by decide) (by decide))).trans (fin_main_v48 m c),
      ((h c).1 1).trans (show _ = reg_main_v14 m c from rfl),
      ((h c).2 main_v49 (Pipeline.mem_restRefs_of main_v49 (by decide) (by decide))).trans (fin_main_v49 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c)⟩) (Gen.run_main m ρ)

end Cert.ReferenceIdeal.Value

end
-- ==== Proof.RCodes.lean ====
/- The reference's codes. -/
module

public import proofs.«01_k».proof.Proof.RRun
public import proofs.«01_k».proof.Proof.VBlocks
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.View (canon)

open Cert.KernelIdeal.Gen (xAt mag)

variable (m : (ℓ : Loc nD τ sig) → Buf (Elt Ideal) ℓ)

/-- The index map of the region's argument. -/
theorem idx : ∀ t : Fin cfg0.N, win0_0.index t = ![0, 0] := (by decide +kernel : ∀ t : Fin grid0.N, _)

/-- The scaled and clipped values, as the reference computes them. -/
def scaled (x : FVec Ideal S2x8192x7168 .bf16) (s : FVec Ideal S256 .f32) : FVec Ideal S16384x7168 .f32 :=
  shapeCast _ (minimumf (broadcastInDim S2x8192x256x28 ![] bcast_S_S2x8192x256x28 (constant S_ .f32 0x43E00000#32))
      (maximumf (broadcastInDim S2x8192x256x28 ![] bcast_S_S2x8192x256x28 (constant S_ .f32 0xC3E00000#32))
        (mulf (extf .f32 (shapeCast _ x shapeCasts_S2x8192x7168_S2x8192x256x28) bitsLt_bf16_f32)
          (broadcastInDim S2x8192x256x28 ![0, 1, 2, 3] bcast_S1x1x256x1_S2x8192x256x28_0_1_2_3 (broadcastInDim S1x1x256x1 ![2, 3] bcast_S256x1_S1x1x256x1_2_3
            (broadcastInDim S256x1 ![0] bcast_S256_S256x1_0 (Host.divf (broadcastInDim S256 ![] bcast_S_S256 (constant S_ .f32 0x3F800000#32)) s))))))) shapeCasts_S2x8192x256x28_S16384x7168

/-- What the scaled and clipped values are before they are rounded. -/
theorem entry_apply (c : Dev nD) (r : Fin 16384) (j : Fin 7168) : V m c main_v13 (ix2 r j)
    = min (Ideal.ofBits .f32 0x43E00000#32) (max (Ideal.ofBits .f32 0xC3E00000#32)
        (xAt (m ((c : Thread nD τ).loc main_arg0)) r j * Ideal.div 1 (m ((c : Thread nD τ).loc main_arg2) (ix1 ⟨j.val / 28, by omega⟩)))) := by
  have e : V m c main_v13 = scaled (m ((c : Thread nD τ).loc main_arg0)) (m ((c : Thread nD τ).loc main_arg2)) := by
    show V0 m c (Proc.devRef .tc main_v13) = _
    simp only [V0, hostOps0, hostOps0_1, hostOps0_2, hostOps0_3, hostOps0_4, StableHlo.TRef.binary, StableHlo.TRef.ternary, StableHlo.TRef.unary, StableHlo.TRef.toBuf, StableHlo.TRef.ofBuf, cast_eq, List.flatten_cons, List.flatten_nil, List.append_nil, List.cons_append, List.nil_append]
    after_results <;> rfl
  rw [e]
  pointwise [scaled]
  rfl

/-- The reference's codes. -/
theorem codes_apply (c : Dev nD) (r : Fin 16384) (j : Fin 7168) : Value.reg_main_v14 m c (ix2 r j) = V m c main_v13 (ix2 r j) := by
  have key : (dats m 0 c).arrAt 1 (cfgs 0).N = V m c main_v13 := by
    refine (dats m 0 c).arrAt_eq_of_after_last 1 t0_0 (by decide +kernel) _ fun j => ?_
    blk_simp
    rw [after0_1]
    frame_out
    pointwise [k0_pay1]
    blk_ext! [iblk, idx t0_0]
  exact congrFun key _

end Cert.ReferenceIdeal.Gen
-- ==== Proof.RRead.lean ====
/- The reference's host operations after its region, one value (`val_<buffer>`) per operation, with its reading
   at one place (`val_<buffer>_apply`) where an element depends on one element of each operand.
   `x0` … `x3` are the arguments, `e0` is the history column computed before the region. -/
module

public import proofs.«01_k».proof.Proof.RRun
public import Idealize.ShloMosaic.Lib.Pipeline.Value

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %15 = stablehlo.reshape %arg0 : (tensor<2x8192x7168xbf16>) -> tensor<16384x256x28xbf16>
/-- The value that the reference's operation `main_v15` writes. -/
def val_main_v15 (x0 : (⟨S2x8192x7168, .bf16⟩ : BufTy).Contents (Elt F)) : (⟨S16384x256x28, .bf16⟩ : BufTy).Contents (Elt F) :=
  shapeCast _ (x0) shapeCasts_S2x8192x7168_S16384x256x28
set_option backward.proofsInPublic true in
/-- The place at which `main_v15` reads its operand. -/
abbrev idx_main_v15 (i : S16384x256x28.Idx) : S2x8192x7168.Idx := fun a => match a with
  | ⟨0, _⟩ => ⟨(((i 0).val * 256 + (i 1).val) * 28 + (i 2).val) / 58720256, by have h0 : (i 0).val < 16384 := (i 0).isLt; have h1 : (i 1).val < 256 := (i 1).isLt; have h2 : (i 2).val < 28 := (i 2).isLt; show (((i 0).val * 256 + (i 1).val) * 28 + (i 2).val) / 58720256 < 2; omega⟩
  | ⟨1, _⟩ => ⟨(((i 0).val * 256 + (i 1).val) * 28 + (i 2).val) / 7168 % 8192, by have h0 : (i 0).val < 16384 := (i 0).isLt; have h1 : (i 1).val < 256 := (i 1).isLt; have h2 : (i 2).val < 28 := (i 2).isLt; show (((i 0).val * 256 + (i 1).val) * 28 + (i 2).val) / 7168 % 8192 < 8192; omega⟩
  | ⟨2, _⟩ => ⟨(((i 0).val * 256 + (i 1).val) * 28 + (i 2).val) % 7168, by have h0 : (i 0).val < 16384 := (i 0).isLt; have h1 : (i 1).val < 256 := (i 1).isLt; have h2 : (i 2).val < 28 := (i 2).isLt; show (((i 0).val * 256 + (i 1).val) * 28 + (i 2).val) % 7168 < 7168; omega⟩
/-- `main_v15` read at one place. -/
theorem val_main_v15_apply (x0 : (⟨S2x8192x7168, .bf16⟩ : BufTy).Contents (Elt F)) (i : S16384x256x28.Idx) :
    val_main_v15 (F := F) x0 i = x0 (idx_main_v15 i) := by
  unfold val_main_v15
  exact shapeCast_apply x0 shapeCasts_S2x8192x7168_S16384x256x28 i (idx_main_v15 i)
    (by rewrite [Shape.rowMajor_val_three, Shape.rowMajor_val_three]; have h0 : (i 0).val < 16384 := (i 0).isLt; have h1 : (i 1).val < 256 := (i 1).isLt; have h2 : (i 2).val < 28 := (i 2).isLt; show ((((i 0).val * 256 + (i 1).val) * 28 + (i 2).val) / 58720256 * 8192 + (((i 0).val * 256 + (i 1).val) * 28 + (i 2).val) / 7168 % 8192) * 7168 + (((i 0).val * 256 + (i 1).val) * 28 + (i 2).val) % 7168 = ((i 0).val * 256 + (i 1).val) * 28 + (i 2).val; omega)

-- %16 = stablehlo.abs %15 : tensor<16384x256x28xbf16>
/-- The value that the reference's operation `main_v16` writes. -/
def val_main_v16 (x0 : (⟨S2x8192x7168, .bf16⟩ : BufTy).Contents (Elt F)) : (⟨S16384x256x28, .bf16⟩ : BufTy).Contents (Elt F) :=
  Host.absf (val_main_v15 (F := F) x0)
/-- `main_v16` read at one place. -/
theorem val_main_v16_apply (x0 : (⟨S2x8192x7168, .bf16⟩ : BufTy).Contents (Elt F)) (i : S16384x256x28.Idx) :
    val_main_v16 (F := F) x0 i = FloatOps.hostAbsf (val_main_v15 (F := F) x0 i) := rfl

-- %cst_4 = stablehlo.constant dense<0xFF80> : tensor<bf16>
/-- The value that the reference's operation `main_cst_4` writes. -/
def val_main_cst_4 : (⟨S_, .bf16⟩ : BufTy).Contents (Elt F) :=
  constant S_ .bf16 0xFF80#16
/-- `main_cst_4` read at one place. -/
theorem val_main_cst_4_apply (i : S_.Idx) :
    val_main_cst_4 (F := F) i = FloatOps.ofBits .bf16 0xFF80#16 := rfl

-- %17 = stablehlo.reduce(%16 init: %cst_4) applies stablehlo.maximum across dimensions = [0, 2] : (tensor<16384x256x28xbf16>, tensor<bf16>) -> tensor<256xbf16> {
/-- The value that the reference's operation `main_v17` writes. -/
def val_main_v17 (x0 : (⟨S2x8192x7168, .bf16⟩ : BufTy).Contents (Elt F)) : (⟨S256, .bf16⟩ : BufTy).Contents (Elt F) :=
  Host.reduce FloatOps.maximumf (val_main_v16 (F := F) x0) (val_main_cst_4 (F := F)) reducesTo_S16384x256x28_S256_d0_2 h_S_

-- %18 = stablehlo.convert %17 : (tensor<256xbf16>) -> tensor<256xf32>
/-- The value that the reference's operation `main_v18` writes. -/
def val_main_v18 (x0 : (⟨S2x8192x7168, .bf16⟩ : BufTy).Contents (Elt F)) : (⟨S256, .f32⟩ : BufTy).Contents (Elt F) :=
  extf .f32 (val_main_v17 (F := F) x0) bitsLt_bf16_f32
/-- `main_v18` read at one place. -/
theorem val_main_v18_apply (x0 : (⟨S2x8192x7168, .bf16⟩ : BufTy).Contents (Elt F)) (i : S256.Idx) :
    val_main_v18 (F := F) x0 i = FloatOps.extf .f32 bitsLt_bf16_f32 (val_main_v17 (F := F) x0 i) := rfl

-- %19 = stablehlo.iota dim = 0 : tensor<1024xi32>
/-- The value that the reference's operation `main_v19` writes. -/
def val_main_v19 : (⟨S1024, .i32⟩ : BufTy).Contents (Elt F) :=
  iotaInDim S1024 32 0
/-- `main_v19` read at one place. -/
theorem val_main_v19_apply (i : S1024.Idx) :
    val_main_v19 (F := F) i = BitVec.ofNat 32 (i 0).val := rfl

-- %20 = stablehlo.broadcast_in_dim %19, dims = [1] : (tensor<1024xi32>) -> tensor<1x1024xi32>
/-- The value that the reference's operation `main_v20` writes. -/
def val_main_v20 : (⟨S1x1024, .i32⟩ : BufTy).Contents (Elt F) :=
  broadcastInDim S1x1024 ![1] bcast_S1024_S1x1024_1 (val_main_v19 (F := F))
/-- The place at which `main_v20` reads its operand. -/
abbrev idx_main_v20 (i : S1x1024.Idx) : S1024.Idx := fun a => match a with
  | ⟨0, _⟩ => ⟨(i 1).val, (i 1).isLt⟩
/-- `main_v20` read at one place. -/
theorem val_main_v20_apply (i : S1x1024.Idx) :
    val_main_v20 (F := F) i = val_main_v19 (F := F) (idx_main_v20 i) := by
  unfold val_main_v20
  generalize val_main_v19 (F := F) = y
  exact broadcastInDim_apply _ bcast_S1024_S1x1024_1 y i (idx_main_v20 i) (fun a => match a with
    | ⟨0, _⟩ => by show (i 1).val = if (1024 : Nat) = 1 then 0 else (i 1).val; rw [if_neg (by decide)])

-- %21 = stablehlo.broadcast_in_dim %3, dims = [] : (tensor<i32>) -> tensor<1x1024xi32>
/-- The value that the reference's operation `main_v21` writes. -/
def val_main_v21 (e0 : (⟨S_, .i32⟩ : BufTy).Contents (Elt F)) : (⟨S1x1024, .i32⟩ : BufTy).Contents (Elt F) :=
  broadcastInDim S1x1024 ![] bcast_S_S1x1024 (e0)
/-- The place at which `main_v21` reads its operand. -/
abbrev idx_main_v21 (i : S1x1024.Idx) : S_.Idx := fun a => a.elim0
/-- `main_v21` read at one place. -/
theorem val_main_v21_apply (e0 : (⟨S_, .i32⟩ : BufTy).Contents (Elt F)) (i : S1x1024.Idx) :
    val_main_v21 (F := F) e0 i = e0 (idx_main_v21 i) := by
  unfold val_main_v21
  exact broadcastInDim_apply _ bcast_S_S1x1024 e0 i (idx_main_v21 i) (fun a => a.elim0)

-- %22 = stablehlo.compare EQ, %20, %21, SIGNED : (tensor<1x1024xi32>, tensor<1x1024xi32>) -> tensor<1x1024xi1>
/-- The value that the reference's operation `main_v22` writes. -/
def val_main_v22 (e0 : (⟨S_, .i32⟩ : BufTy).Contents (Elt F)) : (⟨S1x1024, .i1⟩ : BufTy).Contents (Elt F) :=
  cmpi .eq (val_main_v20 (F := F)) (val_main_v21 (F := F) e0)
/-- `main_v22` read at one place. -/
theorem val_main_v22_apply (e0 : (⟨S_, .i32⟩ : BufTy).Contents (Elt F)) (i : S1x1024.Idx) :
    val_main_v22 (F := F) e0 i = IntOp.cmpi .eq (val_main_v20 (F := F) i) (val_main_v21 (F := F) e0 i) := rfl

-- %23 = stablehlo.broadcast_in_dim %18, dims = [0] : (tensor<256xf32>) -> tensor<256x1xf32>
/-- The value that the reference's operation `main_v23` writes. -/
def val_main_v23 (x0 : (⟨S2x8192x7168, .bf16⟩ : BufTy).Contents (Elt F)) : (⟨S256x1, .f32⟩ : BufTy).Contents (Elt F) :=
  broadcastInDim S256x1 ![0] bcast_S256_S256x1_0 (val_main_v18 (F := F) x0)
/-- The place at which `main_v23` reads its operand. -/
abbrev idx_main_v23 (i : S256x1.Idx) : S256.Idx := fun a => match a with
  | ⟨0, _⟩ => ⟨(i 0).val, (i 0).isLt⟩
/-- `main_v23` read at one place. -/
theorem val_main_v23_apply (x0 : (⟨S2x8192x7168, .bf16⟩ : BufTy).Contents (Elt F)) (i : S256x1.Idx) :
    val_main_v23 (F := F) x0 i = val_main_v18 (F := F) x0 (idx_main_v23 i) := by
  unfold val_main_v23
  generalize val_main_v18 (F := F) x0 = y
  exact broadcastInDim_apply _ bcast_S256_S256x1_0 y i (idx_main_v23 i) (fun a => match a with
    | ⟨0, _⟩ => by show (i 0).val = if (256 : Nat) = 1 then 0 else (i 0).val; rw [if_neg (by decide)])

-- @_where_0's %0 = stablehlo.broadcast_in_dim %arg0, dims = [0, 1] : (tensor<1x1024xi1>) -> tensor<256x1024xi1>, in %24 = func.call @_where_0(…) (record main_call2)
/-- The value that the reference's operation `main_call2_v0` writes. -/
def val_main_call2_v0 (e0 : (⟨S_, .i32⟩ : BufTy).Contents (Elt F)) : (⟨S256x1024, .i1⟩ : BufTy).Contents (Elt F) :=
  broadcastInDim S256x1024 ![0, 1] bcast_S1x1024_S256x1024_0_1 (val_main_v22 (F := F) e0)
/-- The place at which `main_call2_v0` reads its operand. -/
abbrev idx_main_call2_v0 (i : S256x1024.Idx) : S1x1024.Idx := fun a => match a with
  | ⟨0, _⟩ => ⟨0, Nat.one_pos⟩
  | ⟨1, _⟩ => ⟨(i 1).val, (i 1).isLt⟩
/-- `main_call2_v0` read at one place. -/
theorem val_main_call2_v0_apply (e0 : (⟨S_, .i32⟩ : BufTy).Contents (Elt F)) (i : S256x1024.Idx) :
    val_main_call2_v0 (F := F) e0 i = val_main_v22 (F := F) e0 (idx_main_call2_v0 i) := by
  unfold val_main_call2_v0
  generalize val_main_v22 (F := F) e0 = y
  exact broadcastInDim_apply _ bcast_S1x1024_S256x1024_0_1 y i (idx_main_call2_v0 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

-- @_where_0's %1 = stablehlo.broadcast_in_dim %arg1, dims = [0, 1] : (tensor<256x1xf32>) -> tensor<256x1024xf32>, in %24 = func.call @_where_0(…) (record main_call2)
/-- The value that the reference's operation `main_call2_v1` writes. -/
def val_main_call2_v1 (x0 : (⟨S2x8192x7168, .bf16⟩ : BufTy).Contents (Elt F)) : (⟨S256x1024, .f32⟩ : BufTy).Contents (Elt F) :=
  broadcastInDim S256x1024 ![0, 1] bcast_S256x1_S256x1024_0_1 (val_main_v23 (F := F) x0)
/-- The place at which `main_call2_v1` reads its operand. -/
abbrev idx_main_call2_v1 (i : S256x1024.Idx) : S256x1.Idx := fun a => match a with
  | ⟨0, _⟩ => ⟨(i 0).val, (i 0).isLt⟩
  | ⟨1, _⟩ => ⟨0, Nat.one_pos⟩
/-- `main_call2_v1` read at one place. -/
theorem val_main_call2_v1_apply (x0 : (⟨S2x8192x7168, .bf16⟩ : BufTy).Contents (Elt F)) (i : S256x1024.Idx) :
    val_main_call2_v1 (F := F) x0 i = val_main_v23 (F := F) x0 (idx_main_call2_v1 i) := by
  unfold val_main_call2_v1
  generalize val_main_v23 (F := F) x0 = y
  exact broadcastInDim_apply _ bcast_S256x1_S256x1024_0_1 y i (idx_main_call2_v1 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

-- %24 = func.call @_where_0(…) (record main_call2) result 0: @_where_0's %2 = stablehlo.select %0, %1, %arg2 : tensor<256x1024xi1>, tensor<256x1024xf32>
/-- The value that the reference's operation `main_v24` writes. -/
def val_main_v24 (x0 : (⟨S2x8192x7168, .bf16⟩ : BufTy).Contents (Elt F)) (x1 : (⟨S256x1024, .f32⟩ : BufTy).Contents (Elt F)) (e0 : (⟨S_, .i32⟩ : BufTy).Contents (Elt F)) : (⟨S256x1024, .f32⟩ : BufTy).Contents (Elt F) :=
  select (val_main_call2_v0 (F := F) e0) (val_main_call2_v1 (F := F) x0) (x1)
/-- `main_v24` read at one place. -/
theorem val_main_v24_apply (x0 : (⟨S2x8192x7168, .bf16⟩ : BufTy).Contents (Elt F)) (x1 : (⟨S256x1024, .f32⟩ : BufTy).Contents (Elt F)) (e0 : (⟨S_, .i32⟩ : BufTy).Contents (Elt F)) (i : S256x1024.Idx) :
    val_main_v24 (F := F) x0 x1 e0 i = Scalar.select (val_main_call2_v0 (F := F) e0 i) (val_main_call2_v1 (F := F) x0 i) (x1 i) := rfl

-- %cst_5 = stablehlo.constant dense<0xFF800000> : tensor<f32>
/-- The value that the reference's operation `main_cst_5` writes. -/
def val_main_cst_5 : (⟨S_, .f32⟩ : BufTy).Contents (Elt F) :=
  constant S_ .f32 0xFF800000#32
/-- `main_cst_5` read at one place. -/
theorem val_main_cst_5_apply (i : S_.Idx) :
    val_main_cst_5 (F := F) i = FloatOps.ofBits .f32 0xFF800000#32 := rfl

-- %25 = stablehlo.reduce(%24 init: %cst_5) applies stablehlo.maximum across dimensions = [1] : (tensor<256x1024xf32>, tensor<f32>) -> tensor<256xf32> {
/-- The value that the reference's operation `main_v25` writes. -/
def val_main_v25 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .f32⟩ : BufTy).Contents (Elt F) :=
  Host.reduce FloatOps.maximumf (val_main_v24 (F := F) x0 x1 e0) (val_main_cst_5 (F := F)) reducesTo_S256x1024_S256_d1 h_S_

-- %cst_6 = stablehlo.constant dense<0.00223214296> : tensor<f32>
/-- The value that the reference's operation `main_cst_6` writes. -/
def val_main_cst_6 : (⟨S_, .f32⟩ : BufTy).Contents (Elt F) :=
  constant S_ .f32 0x3B124925#32
/-- `main_cst_6` read at one place. -/
theorem val_main_cst_6_apply (i : S_.Idx) :
    val_main_cst_6 (F := F) i = FloatOps.ofBits .f32 0x3B124925#32 := rfl

-- %26 = stablehlo.broadcast_in_dim %cst_6, dims = [] : (tensor<f32>) -> tensor<256xf32>
/-- The value that the reference's operation `main_v26` writes. -/
def val_main_v26 : (⟨S256, .f32⟩ : BufTy).Contents (Elt F) :=
  broadcastInDim S256 ![] bcast_S_S256 (val_main_cst_6 (F := F))
/-- The place at which `main_v26` reads its operand. -/
abbrev idx_main_v26 (i : S256.Idx) : S_.Idx := fun a => a.elim0
/-- `main_v26` read at one place. -/
theorem val_main_v26_apply (i : S256.Idx) :
    val_main_v26 (F := F) i = val_main_cst_6 (F := F) (idx_main_v26 i) := by
  unfold val_main_v26
  generalize val_main_cst_6 (F := F) = y
  exact broadcastInDim_apply _ bcast_S_S256 y i (idx_main_v26 i) (fun a => a.elim0)

-- %27 = stablehlo.multiply %25, %26 : tensor<256xf32>
/-- The value that the reference's operation `main_v27` writes. -/
def val_main_v27 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .f32⟩ : BufTy).Contents (Elt F) :=
  mulf (val_main_v25 (F := F) x0 x1 e0) (val_main_v26 (F := F))
/-- `main_v27` read at one place. -/
theorem val_main_v27_apply (x0 : (⟨S2x8192x7168, .bf16⟩ : BufTy).Contents (Elt F)) (x1 : (⟨S256x1024, .f32⟩ : BufTy).Contents (Elt F)) (e0 : (⟨S_, .i32⟩ : BufTy).Contents (Elt F)) (i : S256.Idx) :
    val_main_v27 (F := F) x0 x1 e0 i = FloatOps.mulf (val_main_v25 (F := F) x0 x1 e0 i) (val_main_v26 (F := F) i) := rfl

-- %28 = stablehlo.iota dim = 0 : tensor<254xf32>
/-- The value that the reference's operation `main_v28` writes. -/
def val_main_v28 : (⟨S254, .f32⟩ : BufTy).Contents (Elt F) :=
  sitofp .f32 (iotaInDim S254 32 0)

-- %cst_7 = stablehlo.constant dense<1.260000e+02> : tensor<f32>
/-- The value that the reference's operation `main_cst_7` writes. -/
def val_main_cst_7 : (⟨S_, .f32⟩ : BufTy).Contents (Elt F) :=
  constant S_ .f32 0x42FC0000#32
/-- `main_cst_7` read at one place. -/
theorem val_main_cst_7_apply (i : S_.Idx) :
    val_main_cst_7 (F := F) i = FloatOps.ofBits .f32 0x42FC0000#32 := rfl

-- %29 = stablehlo.broadcast_in_dim %cst_7, dims = [] : (tensor<f32>) -> tensor<254xf32>
/-- The value that the reference's operation `main_v29` writes. -/
def val_main_v29 : (⟨S254, .f32⟩ : BufTy).Contents (Elt F) :=
  broadcastInDim S254 ![] bcast_S_S254 (val_main_cst_7 (F := F))
/-- The place at which `main_v29` reads its operand. -/
abbrev idx_main_v29 (i : S254.Idx) : S_.Idx := fun a => a.elim0
/-- `main_v29` read at one place. -/
theorem val_main_v29_apply (i : S254.Idx) :
    val_main_v29 (F := F) i = val_main_cst_7 (F := F) (idx_main_v29 i) := by
  unfold val_main_v29
  generalize val_main_cst_7 (F := F) = y
  exact broadcastInDim_apply _ bcast_S_S254 y i (idx_main_v29 i) (fun a => a.elim0)

-- %30 = stablehlo.subtract %28, %29 : tensor<254xf32>
/-- The value that the reference's operation `main_v30` writes. -/
def val_main_v30 : (⟨S254, .f32⟩ : BufTy).Contents (Elt F) :=
  subf (val_main_v28 (F := F)) (val_main_v29 (F := F))
/-- `main_v30` read at one place. -/
theorem val_main_v30_apply (i : S254.Idx) :
    val_main_v30 (F := F) i = FloatOps.subf (val_main_v28 (F := F) i) (val_main_v29 (F := F) i) := rfl

-- %cst_8 = stablehlo.constant dense<2.000000e+00> : tensor<f32>
/-- The value that the reference's operation `main_cst_8` writes. -/
def val_main_cst_8 : (⟨S_, .f32⟩ : BufTy).Contents (Elt F) :=
  constant S_ .f32 0x40000000#32
/-- `main_cst_8` read at one place. -/
theorem val_main_cst_8_apply (i : S_.Idx) :
    val_main_cst_8 (F := F) i = FloatOps.ofBits .f32 0x40000000#32 := rfl

-- %31 = stablehlo.broadcast_in_dim %cst_8, dims = [] : (tensor<f32>) -> tensor<254xf32>
/-- The value that the reference's operation `main_v31` writes. -/
def val_main_v31 : (⟨S254, .f32⟩ : BufTy).Contents (Elt F) :=
  broadcastInDim S254 ![] bcast_S_S254 (val_main_cst_8 (F := F))
/-- The place at which `main_v31` reads its operand. -/
abbrev idx_main_v31 (i : S254.Idx) : S_.Idx := fun a => a.elim0
/-- `main_v31` read at one place. -/
theorem val_main_v31_apply (i : S254.Idx) :
    val_main_v31 (F := F) i = val_main_cst_8 (F := F) (idx_main_v31 i) := by
  unfold val_main_v31
  generalize val_main_cst_8 (F := F) = y
  exact broadcastInDim_apply _ bcast_S_S254 y i (idx_main_v31 i) (fun a => a.elim0)

-- %32 = stablehlo.power %31, %30 : tensor<254xf32>
/-- The value that the reference's operation `main_v32` writes. -/
def val_main_v32 : (⟨S254, .f32⟩ : BufTy).Contents (Elt F) :=
  Host.powf (val_main_v31 (F := F)) (val_main_v30 (F := F))
/-- `main_v32` read at one place. -/
theorem val_main_v32_apply (i : S254.Idx) :
    val_main_v32 (F := F) i = FloatOps.hostPowf (val_main_v31 (F := F) i) (val_main_v30 (F := F) i) := rfl

-- %33 = stablehlo.broadcast_in_dim %32, dims = [1] : (tensor<254xf32>) -> tensor<1x254xf32>
/-- The value that the reference's operation `main_v33` writes. -/
def val_main_v33 : (⟨S1x254, .f32⟩ : BufTy).Contents (Elt F) :=
  broadcastInDim S1x254 ![1] bcast_S254_S1x254_1 (val_main_v32 (F := F))
/-- The place at which `main_v33` reads its operand. -/
abbrev idx_main_v33 (i : S1x254.Idx) : S254.Idx := fun a => match a with
  | ⟨0, _⟩ => ⟨(i 1).val, (i 1).isLt⟩
/-- `main_v33` read at one place. -/
theorem val_main_v33_apply (i : S1x254.Idx) :
    val_main_v33 (F := F) i = val_main_v32 (F := F) (idx_main_v33 i) := by
  unfold val_main_v33
  generalize val_main_v32 (F := F) = y
  exact broadcastInDim_apply _ bcast_S254_S1x254_1 y i (idx_main_v33 i) (fun a => match a with
    | ⟨0, _⟩ => by show (i 1).val = if (254 : Nat) = 1 then 0 else (i 1).val; rw [if_neg (by decide)])

-- %34 = stablehlo.broadcast_in_dim %27, dims = [0] : (tensor<256xf32>) -> tensor<256x1xf32>
/-- The value that the reference's operation `main_v34` writes. -/
def val_main_v34 (x0 : (⟨S2x8192x7168, .bf16⟩ : BufTy).Contents (Elt F)) (x1 : (⟨S256x1024, .f32⟩ : BufTy).Contents (Elt F)) (e0 : (⟨S_, .i32⟩ : BufTy).Contents (Elt F)) : (⟨S256x1, .f32⟩ : BufTy).Contents (Elt F) :=
  broadcastInDim S256x1 ![0] bcast_S256_S256x1_0 (val_main_v27 (F := F) x0 x1 e0)
/-- The place at which `main_v34` reads its operand. -/
abbrev idx_main_v34 (i : S256x1.Idx) : S256.Idx := fun a => match a with
  | ⟨0, _⟩ => ⟨(i 0).val, (i 0).isLt⟩
/-- `main_v34` read at one place. -/
theorem val_main_v34_apply (x0 : (⟨S2x8192x7168, .bf16⟩ : BufTy).Contents (Elt F)) (x1 : (⟨S256x1024, .f32⟩ : BufTy).Contents (Elt F)) (e0 : (⟨S_, .i32⟩ : BufTy).Contents (Elt F)) (i : S256x1.Idx) :
    val_main_v34 (F := F) x0 x1 e0 i = val_main_v27 (F := F) x0 x1 e0 (idx_main_v34 i) := by
  unfold val_main_v34
  generalize val_main_v27 (F := F) x0 x1 e0 = y
  exact broadcastInDim_apply _ bcast_S256_S256x1_0 y i (idx_main_v34 i) (fun a => match a with
    | ⟨0, _⟩ => by show (i 0).val = if (256 : Nat) = 1 then 0 else (i 0).val; rw [if_neg (by decide)])

-- %35 = stablehlo.broadcast_in_dim %33, dims = [0, 1] : (tensor<1x254xf32>) -> tensor<256x254xf32>
/-- The value that the reference's operation `main_v35` writes. -/
def val_main_v35 : (⟨S256x254, .f32⟩ : BufTy).Contents (Elt F) :=
  broadcastInDim S256x254 ![0, 1] bcast_S1x254_S256x254_0_1 (val_main_v33 (F := F))
/-- The place at which `main_v35` reads its operand. -/
abbrev idx_main_v35 (i : S256x254.Idx) : S1x254.Idx := fun a => match a with
  | ⟨0, _⟩ => ⟨0, Nat.one_pos⟩
  | ⟨1, _⟩ => ⟨(i 1).val, (i 1).isLt⟩
/-- `main_v35` read at one place. -/
theorem val_main_v35_apply (i : S256x254.Idx) :
    val_main_v35 (F := F) i = val_main_v33 (F := F) (idx_main_v35 i) := by
  unfold val_main_v35
  generalize val_main_v33 (F := F) = y
  exact broadcastInDim_apply _ bcast_S1x254_S256x254_0_1 y i (idx_main_v35 i) (fun a => match a with
    | ⟨0, _⟩ => by show 0 = if (1 : Nat) = 1 then 0 else (i 0).val; rw [if_pos rfl]
    | ⟨1, _⟩ => by show (i 1).val = if (254 : Nat) = 1 then 0 else (i 1).val; rw [if_neg (by decide)])

-- %36 = stablehlo.broadcast_in_dim %34, dims = [0, 1] : (tensor<256x1xf32>) -> tensor<256x254xf32>
/-- The value that the reference's operation `main_v36` writes. -/
def val_main_v36 (x0 : (⟨S2x8192x7168, .bf16⟩ : BufTy).Contents (Elt F)) (x1 : (⟨S256x1024, .f32⟩ : BufTy).Contents (Elt F)) (e0 : (⟨S_, .i32⟩ : BufTy).Contents (Elt F)) : (⟨S256x254, .f32⟩ : BufTy).Contents (Elt F) :=
  broadcastInDim S256x254 ![0, 1] bcast_S256x1_S256x254_0_1 (val_main_v34 (F := F) x0 x1 e0)
/-- The place at which `main_v36` reads its operand. -/
abbrev idx_main_v36 (i : S256x254.Idx) : S256x1.Idx := fun a => match a with
  | ⟨0, _⟩ => ⟨(i 0).val, (i 0).isLt⟩
  | ⟨1, _⟩ => ⟨0, Nat.one_pos⟩
/-- `main_v36` read at one place. -/
theorem val_main_v36_apply (x0 : (⟨S2x8192x7168, .bf16⟩ : BufTy).Contents (Elt F)) (x1 : (⟨S256x1024, .f32⟩ : BufTy).Contents (Elt F)) (e0 : (⟨S_, .i32⟩ : BufTy).Contents (Elt F)) (i : S256x254.Idx) :
    val_main_v36 (F := F) x0 x1 e0 i = val_main_v34 (F := F) x0 x1 e0 (idx_main_v36 i) := by
  unfold val_main_v36
  generalize val_main_v34 (F := F) x0 x1 e0 = y
  exact broadcastInDim_apply _ bcast_S256x1_S256x254_0_1 y i (idx_main_v36 i) (fun a => match a with
    | ⟨0, _⟩ => by show (i 0).val = if (256 : Nat) = 1 then 0 else (i 0).val; rw [if_neg (by decide)]
    | ⟨1, _⟩ => by show 0 = if (1 : Nat) = 1 then 0 else (i 1).val; rw [if_pos rfl])

-- %37 = stablehlo.compare GT, %35, %36, FLOAT : (tensor<256x254xf32>, tensor<256x254xf32>) -> tensor<256x254xi1>
/-- The value that the reference's operation `main_v37` writes. -/
def val_main_v37 (x0 : (⟨S2x8192x7168, .bf16⟩ : BufTy).Contents (Elt F)) (x1 : (⟨S256x1024, .f32⟩ : BufTy).Contents (Elt F)) (e0 : (⟨S_, .i32⟩ : BufTy).Contents (Elt F)) : (⟨S256x254, .i1⟩ : BufTy).Contents (Elt F) :=
  cmpf .ogt (val_main_v35 (F := F)) (val_main_v36 (F := F) x0 x1 e0)
/-- `main_v37` read at one place. -/
theorem val_main_v37_apply (x0 : (⟨S2x8192x7168, .bf16⟩ : BufTy).Contents (Elt F)) (x1 : (⟨S256x1024, .f32⟩ : BufTy).Contents (Elt F)) (e0 : (⟨S_, .i32⟩ : BufTy).Contents (Elt F)) (i : S256x254.Idx) :
    val_main_v37 (F := F) x0 x1 e0 i = FloatOps.cmpf .ogt (val_main_v35 (F := F) i) (val_main_v36 (F := F) x0 x1 e0 i) := rfl

-- %38 = stablehlo.broadcast_in_dim %32, dims = [1] : (tensor<254xf32>) -> tensor<1x254xf32>
/-- The value that the reference's operation `main_v38` writes. -/
def val_main_v38 : (⟨S1x254, .f32⟩ : BufTy).Contents (Elt F) :=
  broadcastInDim S1x254 ![1] bcast_S254_S1x254_1 (val_main_v32 (F := F))
/-- The place at which `main_v38` reads its operand. -/
abbrev idx_main_v38 (i : S1x254.Idx) : S254.Idx := fun a => match a with
  | ⟨0, _⟩ => ⟨(i 1).val, (i 1).isLt⟩
/-- `main_v38` read at one place. -/
theorem val_main_v38_apply (i : S1x254.Idx) :
    val_main_v38 (F := F) i = val_main_v32 (F := F) (idx_main_v38 i) := by
  unfold val_main_v38
  generalize val_main_v32 (F := F) = y
  exact broadcastInDim_apply _ bcast_S254_S1x254_1 y i (idx_main_v38 i) (fun a => match a with
    | ⟨0, _⟩ => by show (i 1).val = if (254 : Nat) = 1 then 0 else (i 1).val; rw [if_neg (by decide)])

-- %cst_9 = stablehlo.constant dense<0x7F800000> : tensor<f32>
/-- The value that the reference's operation `main_cst_9` writes. -/
def val_main_cst_9 : (⟨S_, .f32⟩ : BufTy).Contents (Elt F) :=
  constant S_ .f32 0x7F800000#32
/-- `main_cst_9` read at one place. -/
theorem val_main_cst_9_apply (i : S_.Idx) :
    val_main_cst_9 (F := F) i = FloatOps.ofBits .f32 0x7F800000#32 := rfl

-- @_where_1's %0 = stablehlo.convert %arg2 : tensor<f32>, in %39 = func.call @_where_1(…) (record main_call3)
/-- The value that the reference's operation `main_call3_v0` writes. -/
def val_main_call3_v0 : (⟨S_, .f32⟩ : BufTy).Contents (Elt F) :=
  id (val_main_cst_9 (F := F))
/-- `main_call3_v0` read at one place. -/
theorem val_main_call3_v0_apply (i : S_.Idx) :
    val_main_call3_v0 (F := F) i = (val_main_cst_9 (F := F) i) := rfl

-- @_where_1's %1 = stablehlo.broadcast_in_dim %arg1, dims = [0, 1] : (tensor<1x254xf32>) -> tensor<256x254xf32>, in %39 = func.call @_where_1(…) (record main_call3)
/-- The value that the reference's operation `main_call3_v1` writes. -/
def val_main_call3_v1 : (⟨S256x254, .f32⟩ : BufTy).Contents (Elt F) :=
  broadcastInDim S256x254 ![0, 1] bcast_S1x254_S256x254_0_1 (val_main_v38 (F := F))
/-- The place at which `main_call3_v1` reads its operand. -/
abbrev idx_main_call3_v1 (i : S256x254.Idx) : S1x254.Idx := fun a => match a with
  | ⟨0, _⟩ => ⟨0, Nat.one_pos⟩
  | ⟨1, _⟩ => ⟨(i 1).val, (i 1).isLt⟩
/-- `main_call3_v1` read at one place. -/
theorem val_main_call3_v1_apply (i : S256x254.Idx) :
    val_main_call3_v1 (F := F) i = val_main_v38 (F := F) (idx_main_call3_v1 i) := by
  unfold val_main_call3_v1
  generalize val_main_v38 (F := F) = y
  exact broadcastInDim_apply _ bcast_S1x254_S256x254_0_1 y i (idx_main_call3_v1 i) (fun a => match a with
    | ⟨0, _⟩ => by show 0 = if (1 : Nat) = 1 then 0 else (i 0).val; rw [if_pos rfl]
    | ⟨1, _⟩ => by show (i 1).val = if (254 : Nat) = 1 then 0 else (i 1).val; rw [if_neg (by decide)])

-- @_where_1's %2 = stablehlo.broadcast_in_dim %0, dims = [] : (tensor<f32>) -> tensor<256x254xf32>, in %39 = func.call @_where_1(…) (record main_call3)
/-- The value that the reference's operation `main_call3_v2` writes. -/
def val_main_call3_v2 : (⟨S256x254, .f32⟩ : BufTy).Contents (Elt F) :=
  broadcastInDim S256x254 ![] bcast_S_S256x254 (val_main_call3_v0 (F := F))
/-- The place at which `main_call3_v2` reads its operand. -/
abbrev idx_main_call3_v2 (i : S256x254.Idx) : S_.Idx := fun a => a.elim0
/-- `main_call3_v2` read at one place. -/
theorem val_main_call3_v2_apply (i : S256x254.Idx) :
    val_main_call3_v2 (F := F) i = val_main_call3_v0 (F := F) (idx_main_call3_v2 i) := by
  unfold val_main_call3_v2
  generalize val_main_call3_v0 (F := F) = y
  exact broadcastInDim_apply _ bcast_S_S256x254 y i (idx_main_call3_v2 i) (fun a => a.elim0)

-- %39 = func.call @_where_1(…) (record main_call3) result 0: @_where_1's %3 = stablehlo.select %arg0, %1, %2 : tensor<256x254xi1>, tensor<256x254xf32>
/-- The value that the reference's operation `main_v39` writes. -/
def val_main_v39 (x0 : (⟨S2x8192x7168, .bf16⟩ : BufTy).Contents (Elt F)) (x1 : (⟨S256x1024, .f32⟩ : BufTy).Contents (Elt F)) (e0 : (⟨S_, .i32⟩ : BufTy).Contents (Elt F)) : (⟨S256x254, .f32⟩ : BufTy).Contents (Elt F) :=
  select (val_main_v37 (F := F) x0 x1 e0) (val_main_call3_v1 (F := F)) (val_main_call3_v2 (F := F))
/-- `main_v39` read at one place. -/
theorem val_main_v39_apply (x0 : (⟨S2x8192x7168, .bf16⟩ : BufTy).Contents (Elt F)) (x1 : (⟨S256x1024, .f32⟩ : BufTy).Contents (Elt F)) (e0 : (⟨S_, .i32⟩ : BufTy).Contents (Elt F)) (i : S256x254.Idx) :
    val_main_v39 (F := F) x0 x1 e0 i = Scalar.select (val_main_v37 (F := F) x0 x1 e0 i) (val_main_call3_v1 (F := F) i) (val_main_call3_v2 (F := F) i) := rfl

-- %cst_10 = stablehlo.constant dense<0x7F800000> : tensor<f32>
/-- The value that the reference's operation `main_cst_10` writes. -/
def val_main_cst_10 : (⟨S_, .f32⟩ : BufTy).Contents (Elt F) :=
  constant S_ .f32 0x7F800000#32
/-- `main_cst_10` read at one place. -/
theorem val_main_cst_10_apply (i : S_.Idx) :
    val_main_cst_10 (F := F) i = FloatOps.ofBits .f32 0x7F800000#32 := rfl

-- %40 = stablehlo.reduce(%39 init: %cst_10) applies stablehlo.minimum across dimensions = [1] : (tensor<256x254xf32>, tensor<f32>) -> tensor<256xf32> {
/-- The value that the reference's operation `main_v40` writes. -/
def val_main_v40 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .f32⟩ : BufTy).Contents (Elt F) :=
  Host.reduce FloatOps.minimumf (val_main_v39 (F := F) x0 x1 e0) (val_main_cst_10 (F := F)) reducesTo_S256x254_S256_d1 h_S_

-- %cst_11 = stablehlo.constant dense<1.17549435E-38> : tensor<f32>
/-- The value that the reference's operation `main_cst_11` writes. -/
def val_main_cst_11 : (⟨S_, .f32⟩ : BufTy).Contents (Elt F) :=
  constant S_ .f32 0x00800000#32
/-- `main_cst_11` read at one place. -/
theorem val_main_cst_11_apply (i : S_.Idx) :
    val_main_cst_11 (F := F) i = FloatOps.ofBits .f32 0x00800000#32 := rfl

-- %41 = stablehlo.broadcast_in_dim %cst_11, dims = [] : (tensor<f32>) -> tensor<256xf32>
/-- The value that the reference's operation `main_v41` writes. -/
def val_main_v41 : (⟨S256, .f32⟩ : BufTy).Contents (Elt F) :=
  broadcastInDim S256 ![] bcast_S_S256 (val_main_cst_11 (F := F))
/-- The place at which `main_v41` reads its operand. -/
abbrev idx_main_v41 (i : S256.Idx) : S_.Idx := fun a => a.elim0
/-- `main_v41` read at one place. -/
theorem val_main_v41_apply (i : S256.Idx) :
    val_main_v41 (F := F) i = val_main_cst_11 (F := F) (idx_main_v41 i) := by
  unfold val_main_v41
  generalize val_main_cst_11 (F := F) = y
  exact broadcastInDim_apply _ bcast_S_S256 y i (idx_main_v41 i) (fun a => a.elim0)

-- %42 = stablehlo.compare LT, %27, %41, FLOAT : (tensor<256xf32>, tensor<256xf32>) -> tensor<256xi1>
/-- The value that the reference's operation `main_v42` writes. -/
def val_main_v42 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .i1⟩ : BufTy).Contents (Elt F) :=
  cmpf .olt (val_main_v27 (F := F) x0 x1 e0) (val_main_v41 (F := F))
/-- `main_v42` read at one place. -/
theorem val_main_v42_apply (x0 : (⟨S2x8192x7168, .bf16⟩ : BufTy).Contents (Elt F)) (x1 : (⟨S256x1024, .f32⟩ : BufTy).Contents (Elt F)) (e0 : (⟨S_, .i32⟩ : BufTy).Contents (Elt F)) (i : S256.Idx) :
    val_main_v42 (F := F) x0 x1 e0 i = FloatOps.cmpf .olt (val_main_v27 (F := F) x0 x1 e0 i) (val_main_v41 (F := F) i) := rfl

-- %cst_12 = stablehlo.constant dense<0x7F800000> : tensor<f32>
/-- The value that the reference's operation `main_cst_12` writes. -/
def val_main_cst_12 : (⟨S_, .f32⟩ : BufTy).Contents (Elt F) :=
  constant S_ .f32 0x7F800000#32
/-- `main_cst_12` read at one place. -/
theorem val_main_cst_12_apply (i : S_.Idx) :
    val_main_cst_12 (F := F) i = FloatOps.ofBits .f32 0x7F800000#32 := rfl

-- %43 = stablehlo.broadcast_in_dim %cst_12, dims = [] : (tensor<f32>) -> tensor<256xf32>
/-- The value that the reference's operation `main_v43` writes. -/
def val_main_v43 : (⟨S256, .f32⟩ : BufTy).Contents (Elt F) :=
  broadcastInDim S256 ![] bcast_S_S256 (val_main_cst_12 (F := F))
/-- The place at which `main_v43` reads its operand. -/
abbrev idx_main_v43 (i : S256.Idx) : S_.Idx := fun a => a.elim0
/-- `main_v43` read at one place. -/
theorem val_main_v43_apply (i : S256.Idx) :
    val_main_v43 (F := F) i = val_main_cst_12 (F := F) (idx_main_v43 i) := by
  unfold val_main_v43
  generalize val_main_cst_12 (F := F) = y
  exact broadcastInDim_apply _ bcast_S_S256 y i (idx_main_v43 i) (fun a => a.elim0)

-- %44 = stablehlo.compare EQ, %27, %43, FLOAT : (tensor<256xf32>, tensor<256xf32>) -> tensor<256xi1>
/-- The value that the reference's operation `main_v44` writes. -/
def val_main_v44 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .i1⟩ : BufTy).Contents (Elt F) :=
  cmpf .oeq (val_main_v27 (F := F) x0 x1 e0) (val_main_v43 (F := F))
/-- `main_v44` read at one place. -/
theorem val_main_v44_apply (x0 : (⟨S2x8192x7168, .bf16⟩ : BufTy).Contents (Elt F)) (x1 : (⟨S256x1024, .f32⟩ : BufTy).Contents (Elt F)) (e0 : (⟨S_, .i32⟩ : BufTy).Contents (Elt F)) (i : S256.Idx) :
    val_main_v44 (F := F) x0 x1 e0 i = FloatOps.cmpf .oeq (val_main_v27 (F := F) x0 x1 e0 i) (val_main_v43 (F := F) i) := rfl

-- %45 = stablehlo.or %42, %44 : tensor<256xi1>
/-- The value that the reference's operation `main_v45` writes. -/
def val_main_v45 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .i1⟩ : BufTy).Contents (Elt F) :=
  ori (val_main_v42 (F := F) x0 x1 e0) (val_main_v44 (F := F) x0 x1 e0)
/-- `main_v45` read at one place. -/
theorem val_main_v45_apply (x0 : (⟨S2x8192x7168, .bf16⟩ : BufTy).Contents (Elt F)) (x1 : (⟨S256x1024, .f32⟩ : BufTy).Contents (Elt F)) (e0 : (⟨S_, .i32⟩ : BufTy).Contents (Elt F)) (i : S256.Idx) :
    val_main_v45 (F := F) x0 x1 e0 i = IntOp.ori (val_main_v42 (F := F) x0 x1 e0 i) (val_main_v44 (F := F) x0 x1 e0 i) := rfl

-- %cst_13 = stablehlo.constant dense<1.000000e+00> : tensor<f32>
/-- The value that the reference's operation `main_cst_13` writes. -/
def val_main_cst_13 : (⟨S_, .f32⟩ : BufTy).Contents (Elt F) :=
  constant S_ .f32 0x3F800000#32
/-- `main_cst_13` read at one place. -/
theorem val_main_cst_13_apply (i : S_.Idx) :
    val_main_cst_13 (F := F) i = FloatOps.ofBits .f32 0x3F800000#32 := rfl

-- @_where_2's %0 = stablehlo.convert %arg1 : tensor<f32>, in %46 = func.call @_where_2(…) (record main_call4)
/-- The value that the reference's operation `main_call4_v0` writes. -/
def val_main_call4_v0 : (⟨S_, .f32⟩ : BufTy).Contents (Elt F) :=
  id (val_main_cst_13 (F := F))
/-- `main_call4_v0` read at one place. -/
theorem val_main_call4_v0_apply (i : S_.Idx) :
    val_main_call4_v0 (F := F) i = (val_main_cst_13 (F := F) i) := rfl

-- @_where_2's %1 = stablehlo.broadcast_in_dim %0, dims = [] : (tensor<f32>) -> tensor<256xf32>, in %46 = func.call @_where_2(…) (record main_call4)
/-- The value that the reference's operation `main_call4_v1` writes. -/
def val_main_call4_v1 : (⟨S256, .f32⟩ : BufTy).Contents (Elt F) :=
  broadcastInDim S256 ![] bcast_S_S256 (val_main_call4_v0 (F := F))
/-- The place at which `main_call4_v1` reads its operand. -/
abbrev idx_main_call4_v1 (i : S256.Idx) : S_.Idx := fun a => a.elim0
/-- `main_call4_v1` read at one place. -/
theorem val_main_call4_v1_apply (i : S256.Idx) :
    val_main_call4_v1 (F := F) i = val_main_call4_v0 (F := F) (idx_main_call4_v1 i) := by
  unfold val_main_call4_v1
  generalize val_main_call4_v0 (F := F) = y
  exact broadcastInDim_apply _ bcast_S_S256 y i (idx_main_call4_v1 i) (fun a => a.elim0)

-- %46 = func.call @_where_2(…) (record main_call4) result 0: @_where_2's %2 = stablehlo.select %arg0, %1, %arg2 : tensor<256xi1>, tensor<256xf32>
/-- The value that the reference's operation `main_v46` writes. -/
def val_main_v46 (x0 : (⟨S2x8192x7168, .bf16⟩ : BufTy).Contents (Elt F)) (x1 : (⟨S256x1024, .f32⟩ : BufTy).Contents (Elt F)) (e0 : (⟨S_, .i32⟩ : BufTy).Contents (Elt F)) : (⟨S256, .f32⟩ : BufTy).Contents (Elt F) :=
  select (val_main_v45 (F := F) x0 x1 e0) (val_main_call4_v1 (F := F)) (val_main_v40 (F := F) x0 x1 e0)
/-- `main_v46` read at one place. -/
theorem val_main_v46_apply (x0 : (⟨S2x8192x7168, .bf16⟩ : BufTy).Contents (Elt F)) (x1 : (⟨S256x1024, .f32⟩ : BufTy).Contents (Elt F)) (e0 : (⟨S_, .i32⟩ : BufTy).Contents (Elt F)) (i : S256.Idx) :
    val_main_v46 (F := F) x0 x1 e0 i = Scalar.select (val_main_v45 (F := F) x0 x1 e0 i) (val_main_call4_v1 (F := F) i) (val_main_v40 (F := F) x0 x1 e0 i) := rfl

-- %47 = stablehlo.reshape %18 : (tensor<256xf32>) -> tensor<2x128xf32>
/-- The value that the reference's operation `main_v47` writes. -/
def val_main_v47 (x0 : (⟨S2x8192x7168, .bf16⟩ : BufTy).Contents (Elt F)) : (⟨S2x128, .f32⟩ : BufTy).Contents (Elt F) :=
  shapeCast _ (val_main_v18 (F := F) x0) shapeCasts_S256_S2x128
set_option backward.proofsInPublic true in
/-- The place at which `main_v47` reads its operand. -/
abbrev idx_main_v47 (i : S2x128.Idx) : S256.Idx := fun a => match a with
  | ⟨0, _⟩ => ⟨(i 0).val * 128 + (i 1).val, by have h0 : (i 0).val < 2 := (i 0).isLt; have h1 : (i 1).val < 128 := (i 1).isLt; show (i 0).val * 128 + (i 1).val < 256; omega⟩
/-- `main_v47` read at one place. -/
theorem val_main_v47_apply (x0 : (⟨S2x8192x7168, .bf16⟩ : BufTy).Contents (Elt F)) (i : S2x128.Idx) :
    val_main_v47 (F := F) x0 i = val_main_v18 (F := F) x0 (idx_main_v47 i) := by
  unfold val_main_v47
  generalize val_main_v18 (F := F) x0 = y
  exact shapeCast_apply y shapeCasts_S256_S2x128 i (idx_main_v47 i)
    (by rewrite [Shape.rowMajor_val_one, Shape.rowMajor_val_two]; have h0 : (i 0).val < 2 := (i 0).isLt; have h1 : (i 1).val < 128 := (i 1).isLt; show (i 0).val * 128 + (i 1).val = (i 0).val * 128 + (i 1).val; omega)

-- %48 = stablehlo.reshape %46 : (tensor<256xf32>) -> tensor<2x128xf32>
/-- The value that the reference's operation `main_v48` writes. -/
def val_main_v48 (x0 : (⟨S2x8192x7168, .bf16⟩ : BufTy).Contents (Elt F)) (x1 : (⟨S256x1024, .f32⟩ : BufTy).Contents (Elt F)) (e0 : (⟨S_, .i32⟩ : BufTy).Contents (Elt F)) : (⟨S2x128, .f32⟩ : BufTy).Contents (Elt F) :=
  shapeCast _ (val_main_v46 (F := F) x0 x1 e0) shapeCasts_S256_S2x128
set_option backward.proofsInPublic true in
/-- The place at which `main_v48` reads its operand. -/
abbrev idx_main_v48 (i : S2x128.Idx) : S256.Idx := fun a => match a with
  | ⟨0, _⟩ => ⟨(i 0).val * 128 + (i 1).val, by have h0 : (i 0).val < 2 := (i 0).isLt; have h1 : (i 1).val < 128 := (i 1).isLt; show (i 0).val * 128 + (i 1).val < 256; omega⟩
/-- `main_v48` read at one place. -/
theorem val_main_v48_apply (x0 : (⟨S2x8192x7168, .bf16⟩ : BufTy).Contents (Elt F)) (x1 : (⟨S256x1024, .f32⟩ : BufTy).Contents (Elt F)) (e0 : (⟨S_, .i32⟩ : BufTy).Contents (Elt F)) (i : S2x128.Idx) :
    val_main_v48 (F := F) x0 x1 e0 i = val_main_v46 (F := F) x0 x1 e0 (idx_main_v48 i) := by
  unfold val_main_v48
  generalize val_main_v46 (F := F) x0 x1 e0 = y
  exact shapeCast_apply y shapeCasts_S256_S2x128 i (idx_main_v48 i)
    (by rewrite [Shape.rowMajor_val_one, Shape.rowMajor_val_two]; have h0 : (i 0).val < 2 := (i 0).isLt; have h1 : (i 1).val < 128 := (i 1).isLt; show (i 0).val * 128 + (i 1).val = (i 0).val * 128 + (i 1).val; omega)

-- %49 = stablehlo.reshape %arg2 : (tensor<256xf32>) -> tensor<2x128xf32>
/-- The value that the reference's operation `main_v49` writes. -/
def val_main_v49 (x2 : (⟨S256, .f32⟩ : BufTy).Contents (Elt F)) : (⟨S2x128, .f32⟩ : BufTy).Contents (Elt F) :=
  shapeCast _ (x2) shapeCasts_S256_S2x128
set_option backward.proofsInPublic true in
/-- The place at which `main_v49` reads its operand. -/
abbrev idx_main_v49 (i : S2x128.Idx) : S256.Idx := fun a => match a with
  | ⟨0, _⟩ => ⟨(i 0).val * 128 + (i 1).val, by have h0 : (i 0).val < 2 := (i 0).isLt; have h1 : (i 1).val < 128 := (i 1).isLt; show (i 0).val * 128 + (i 1).val < 256; omega⟩
/-- `main_v49` read at one place. -/
theorem val_main_v49_apply (x2 : (⟨S256, .f32⟩ : BufTy).Contents (Elt F)) (i : S2x128.Idx) :
    val_main_v49 (F := F) x2 i = x2 (idx_main_v49 i) := by
  unfold val_main_v49
  exact shapeCast_apply x2 shapeCasts_S256_S2x128 i (idx_main_v49 i)
    (by rewrite [Shape.rowMajor_val_one, Shape.rowMajor_val_two]; have h0 : (i 0).val < 2 := (i 0).isLt; have h1 : (i 1).val < 128 := (i 1).isLt; show (i 0).val * 128 + (i 1).val = (i 0).val * 128 + (i 1).val; omega)

/-- The term the Run module states for `main_v47` over any contents `V0` is the stage. -/
theorem val_main_v47_eq (V0 : Valuation τ sig (Elt F)) :
    shapeCast _ (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32) shapeCasts_S256_S2x128
      = val_main_v47 (F := F) (V0 (Proc.devRef .tc main_arg0)) := rfl

/-- The term the Run module states for `main_v48` over any contents `V0` is the stage. -/
theorem val_main_v48_eq (V0 : Valuation τ sig (Elt F)) :
    shapeCast _ (select (ori (cmpf .olt (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x00800000#32))) (cmpf .oeq (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32))) (broadcastInDim S256 ![] bcast_S_S256 (constant S_ .f32 0x7F800000#32)))) (broadcastInDim S256 ![] bcast_S_S256 (id (constant S_ .f32 0x3F800000#32))) (Host.reduce FloatOps.minimumf (select (cmpf .ogt (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![0, 1] bcast_S256x1_S256x254_0_1 (broadcastInDim S256x1 ![0] bcast_S256_S256x1_0 (mulf (Host.reduce FloatOps.maximumf (select (broadcastInDim S256x1024 ![0, 1] bcast_S1x1024_S256x1024_0_1 (cmpi .eq (broadcastInDim S1x1024 ![1] bcast_S1024_S1x1024_1 (iotaInDim S1024 32 0)) (broadcastInDim S1x1024 ![] bcast_S_S1x1024 (V0 (Proc.devRef .tc main_v3))))) (broadcastInDim S256x1024 ![0, 1] bcast_S256x1_S256x1024_0_1 (broadcastInDim S256x1 ![0] bcast_S256_S256x1_0 (extf .f32 (Host.reduce FloatOps.maximumf (Host.absf (shapeCast _ (V0 (Proc.devRef .tc main_arg0)) shapeCasts_S2x8192x7168_S16384x256x28)) (constant S_ .bf16 0xFF80#16) reducesTo_S16384x256x28_S256_d0_2 h_S_) bitsLt_bf16_f32))) (V0 (Proc.devRef .tc main_arg1))) (constant S_ .f32 0xFF800000#32) reducesTo_S256x1024_S256_d1 h_S_) (broadcastInDim S256 ![] bcast_S_S256 (constant S_ .f32 0x3B124925#32)))))) (broadcastInDim S256x254 ![0, 1] bcast_S1x254_S256x254_0_1 (broadcastInDim S1x254 ![1] bcast_S254_S1x254_1 (Host.powf (broadcastInDim S254 ![] bcast_S_S254 (constant S_ .f32 0x40000000#32)) (subf (sitofp .f32 (iotaInDim S254 32 0)) (broadcastInDim S254 ![] bcast_S_S254 (constant S_ .f32 0x42FC0000#32)))))) (broadcastInDim S256x254 ![] bcast_S_S256x254 (id (constant S_ .f32 0x7F800000#32)))) (constant S_ .f32 0x7F800000#32) reducesTo_S256x254_S256_d1 h_S_)) shapeCasts_S256_S2x128
      = val_main_v48 (F := F) (V0 (Proc.devRef .tc main_arg0)) (V0 (Proc.devRef .tc main_arg1)) (V0 (Proc.devRef .tc main_v3)) := rfl

/-- The term the Run module states for `main_v49` over any contents `V0` is the stage. -/
theorem val_main_v49_eq (V0 : Valuation τ sig (Elt F)) :
    shapeCast _ (V0 (Proc.devRef .tc main_arg2)) shapeCasts_S256_S2x128
      = val_main_v49 (F := F) (V0 (Proc.devRef .tc main_arg2)) := rfl

end Cert.ReferenceIdeal.Read

end
-- ==== Proof.RAmax.lean ====
/- The reference's maxima. -/
module

public import proofs.«01_k».proof.Proof.RRead
public import proofs.«01_k».proof.Proof.VAmax
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.View (canon)

open Cert.KernelIdeal.Gen (xAt mag mag_nonneg amaxSpec amaxSpec_le negInf_bf16)
open Cert.ReferenceIdeal.Read

/-- The reference's maxima, before they are widened and laid out in rows of 128. -/
theorem amax17_apply (x0 : S2x8192x7168.Idx → EReal) (n : Fin 256) : val_main_v17 (F := Ideal) x0 (ix1 n) = amaxSpec x0 n := by
  refine eq_of_forall_ge_iff fun b => ?_
  rw [amaxSpec_le]
  unfold val_main_v17
  pointwise [val_main_v16, val_main_v15]
  rw [Finset.fold_max_le]
  have hz : val_main_cst_4 (F := Ideal) (Shape.Idx.first h_S_) = (⊥ : EReal) := negInf_bf16
  have hd : ∀ i : S16384x256x28.Idx, reducesTo_S16384x256x28_S256_d0_2.drop i = ix1 (i 1) := by
    intro i
    funext a
    match a with
    | ⟨0, _⟩ => rfl
  simp only [hz, bot_le, true_and, Finset.mem_filter, Finset.mem_univ, hd]
  constructor
  · intro H r k
    refine le_trans (le_of_eq ?_) (H (ix3 r n k) rfl)
    show mag (x0 _) = mag (x0 _)
    congr 3
    apply Fin.ext
    show 28 * n.val + k.val = n.val * 28 + k.val
    omega
  · intro H i hi
    have hn : i 1 = n := congrFun hi 0
    refine le_trans (le_of_eq ?_) (H (i 0) (i 2))
    show mag (x0 _) = mag (x0 _)
    congr 3
    apply Fin.ext
    show (i 1).val * 28 + (i 2).val = 28 * n.val + (i 2).val
    rw [hn]
    omega

/-- The reference's maxima. -/
theorem amax47_apply (x0 : S2x8192x7168.Idx → EReal) (p : Fin 2) (l : Fin 128) :
    val_main_v47 (F := Ideal) x0 (ix2 p l) = amaxSpec x0 ⟨128 * p.val + l.val, by omega⟩ := by
  pointwise [val_main_v47, val_main_v18]
  refine (amax17_apply x0 ⟨p.val * 128 + l.val, by omega⟩).trans ?_
  congr 1
  apply Fin.ext
  dsimp only
  omega

end Cert.ReferenceIdeal.Gen
-- ==== Proof.RScale.lean ====
/- The reference's new scales. -/
module

public import proofs.«01_k».proof.Proof.RAmax
public import proofs.«01_k».proof.Proof.VScale
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.View (canon)

open Cert.KernelIdeal.Gen (xAt mag amaxSpec histSpec histAt scaleSpec colIx colIx_lt select_eq select_slt remsi_1024 negInf_f32)
open Cert.ReferenceIdeal.Read
open Cert.Pow2

/-- The maximum of one tensor's history with the step's maximum written into it. -/
theorem hist_max (x0 : S2x8192x7168.Idx → EReal) (x1 : S256x1024.Idx → EReal) (e0 : S_.Idx → BitVec 32) (st : BitVec 32) (he : e0 ix0 = colIx st) (n : Fin 256) :
    val_main_v25 (F := Ideal) x0 x1 e0 (ix1 n) = max (amaxSpec x0 n) (histSpec x1 st n) := by
  refine eq_of_forall_ge_iff fun b => ?_
  pointwise [val_main_v25, val_main_v24, val_main_call2_v0, val_main_call2_v1, val_main_v23, val_main_v22, val_main_v21, val_main_v20, val_main_v19, val_main_v18]
  rw [Finset.fold_max_le, amax17_apply, he]
  have hz : val_main_cst_5 (F := Ideal) (Shape.Idx.first h_S_) = (⊥ : EReal) := negInf_f32
  unfold histSpec
  simp only [hz, bot_le, true_and, Finset.mem_univ, forall_const, max_le_iff, iSup_le_iff, select_eq]
  have hat : ∀ j : Fin 1024, histAt x1 st n j.val = if BitVec.ofNat 32 j.val = colIx st then ⊥ else x1 (ix2 n j) := fun j => dif_pos j.isLt
  constructor
  · intro H
    refine ⟨?_, fun j => ?_⟩
    · obtain ⟨j, hj⟩ := colIx_lt st
      have := H j
      rwa [if_pos hj.symm] at this
    · rw [hat]
      have := H j
      split
      · exact bot_le
      · rename_i hne
        rwa [if_neg hne] at this
  · rintro ⟨h1, h2⟩ j
    have := h2 j
    rw [hat] at this
    split
    · exact h1
    · rename_i hne
      rwa [if_neg hne] at this

/-- Two conditions joined, as words. -/
theorem select_or2 {α : Type} (p q : Prop) [Decidable p] [Decidable q] (x y : α) :
    Scalar.select (IntOp.ori (BitVec.ofBool (decide p)) (BitVec.ofBool (decide q))) x y = if p ∨ q then x else y := by
  by_cases hp : p <;> by_cases hq : q <;> simp [hp, hq, IntOp.ori, Scalar.select]

/-- The float32 word of one. -/
theorem one_f32 : Ideal.ofBits .f32 0x3F800000#32 = (1 : EReal) := by
  simp [Ideal.ofBits, Ideal.ieee, -EReal.coe_mul]
  norm_num

/-- The float32 word of infinity. -/
theorem top_f32 : Ideal.ofBits .f32 0x7F800000#32 = (⊤ : EReal) := by
  simp [Ideal.ofBits, Ideal.ieee]

/-- A number below 254, as a word, reads as itself. -/
theorem toInt_small (k : Fin 254) : (BitVec.ofNat 32 k.val).toInt = (k.val : ℤ) := by
  revert k
  decide +kernel

/-- The reference's new scales, one by one. -/
theorem scale46_apply (x0 : S2x8192x7168.Idx → EReal) (x1 : S256x1024.Idx → EReal) (e0 : S_.Idx → BitVec 32) (n : Fin 256) :
    val_main_v46 (F := Ideal) x0 x1 e0 (ix1 n) = scaleOf (val_main_v25 (F := Ideal) x0 x1 e0 (ix1 n) * Ideal.ofBits .f32 0x3B124925#32) := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_call3_v0, val_main_call3_v1, val_main_call3_v2, val_main_call4_v0, val_main_call4_v1, val_main_cst_6, val_main_cst_7, val_main_cst_8, val_main_cst_9, val_main_cst_10, val_main_cst_11, val_main_cst_12, val_main_cst_13]
  generalize val_main_v25 (F := Ideal) x0 x1 e0 (ix1 n) * Ideal.ofBits .f32 0x3B124925#32 = y
  have hg1 : Ideal.ofBits .f32 0x00800000#32 = g 1 := ofBits_g 1 (by norm_num)
  have hp : ∀ k : Fin 254, Ideal.pow (Ideal.ofBits .f32 0x40000000#32) (FloatOps.sitofp (F := Ideal) FTy.f32 (BitVec.ofNat 32 k.val) - Ideal.ofBits .f32 0x42FC0000#32) = g (k.val + 1) := by
    intro k
    rw [← pow_g k.val k.isLt]
    have : FloatOps.sitofp (F := Ideal) FTy.f32 (BitVec.ofNat 32 k.val) = (((k.val : ℝ)) : EReal) := by
      show (((BitVec.ofNat 32 k.val).toInt : ℝ) : EReal) = _
      rw [toInt_small]
      norm_cast
    rw [this]
  have h1 : id (constant (F := Ideal) S_ FTy.f32 0x3F800000#32) ix0 = (1 : EReal) := one_f32
  have ht : id (constant (F := Ideal) S_ FTy.f32 0x7F800000#32) ix0 = (⊤ : EReal) := top_f32
  simp only [hp, hg1, h1, ht, top_f32]
  rw [select_or2]
  unfold scaleOf
  congr 1
  refine eq_of_forall_le_iff fun b => ?_
  rw [Finset.le_fold_min]
  simp only [le_top, true_and, Finset.mem_univ, forall_const, le_iInf_iff]

/-- The reference's new scales. -/
theorem scale48_apply (x0 : S2x8192x7168.Idx → EReal) (x1 : S256x1024.Idx → EReal) (e0 : S_.Idx → BitVec 32) (st : BitVec 32) (he : e0 ix0 = colIx st) (p : Fin 2) (l : Fin 128) :
    val_main_v48 (F := Ideal) x0 x1 e0 (ix2 p l) = scaleSpec x0 x1 st ⟨128 * p.val + l.val, by omega⟩ := by
  have hn : (⟨128 * p.val + l.val, by omega⟩ : Fin 256) = ⟨p.val * 128 + l.val, by omega⟩ := Fin.ext (by dsimp only; omega)
  rw [hn]
  pointwise [val_main_v48]
  rw [scale46_apply, hist_max x0 x1 e0 st he]
  rfl

/-- The reference's column. -/
theorem col_ref (st : S_.Idx → BitVec 32) : (select (cmpi .slt (Host.remsi st (constantI S_ 32 1024#32)) (constantI S_ 32 0#32)) (addi (Host.remsi st (constantI S_ 32 1024#32)) (constantI S_ 32 1024#32)) (Host.remsi st (constantI S_ 32 1024#32)) : S_.Idx → BitVec 32) ix0
    = colIx (st ix0) := by
  pointwise
  rw [select_slt, remsi_1024]
  rfl

end Cert.ReferenceIdeal.Gen
-- ==== Proof.REnds.lean ====
/- The reference's results in closed form. -/
module

public import proofs.«01_k».proof.Proof.RCodes
public import proofs.«01_k».proof.Proof.RScale
public import proofs.«01_k».proof.Proof.VOut
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Idealize.ShloMosaic.View (canon)
open Cert.KernelIdeal.Gen (xAt mag amaxSpec scaleSpec colIx)
open Cert.ReferenceIdeal.Read

open Cert.KernelIdeal.Gen (codeSpec rowIx)

/-- The reference's maxima, over all places. -/
theorem amax47 (x0 : S2x8192x7168.Idx → EReal) : val_main_v47 (F := Ideal) x0 = fun i : S2x128.Idx => amaxSpec x0 (rowIx i) := by
  funext i
  idx_vars i
  exact amax47_apply x0 i0 i1

/-- The reference's new scales, over all places. -/
theorem scale48 (x0 : S2x8192x7168.Idx → EReal) (x1 : S256x1024.Idx → EReal) (e0 : S_.Idx → BitVec 32) (st : BitVec 32) (he : e0 ix0 = colIx st) :
    val_main_v48 (F := Ideal) x0 x1 e0 = fun i : S2x128.Idx => scaleSpec x0 x1 st (rowIx i) := by
  funext i
  idx_vars i
  exact scale48_apply x0 x1 e0 st he i0 i1

/-- The scales in use, set out in two rows. -/
theorem used49 (x2 : FVec Ideal S256 .f32) : (shapeCast S2x128 x2 shapeCasts_S256_S2x128 : FVec Ideal S2x128 .f32) = fun i : S2x128.Idx => x2 (ix1 (rowIx i)) := by
  funext i
  idx_vars i
  pointwise
  refine congrArg x2 (congrArg ix1 (Fin.ext ?_))
  show i0.val * 128 + i1.val = 128 * i0.val + i1.val
  omega

variable (m : (ℓ : Loc nD τ sig) → Buf (Elt Ideal) ℓ)

/-- The reference's new scales, as the run states them. -/
theorem res48 (c : Dev nD) : Value.res_main_v48 (F := Ideal) m c
    = fun i : S2x128.Idx => scaleSpec (m ((c : Thread nD τ).loc main_arg0)) (m ((c : Thread nD τ).loc main_arg1)) (m ((c : Thread nD τ).loc main_arg3) ix0) (rowIx i) :=
  Eq.trans (by unfold Value.res_main_v48; rfl) (scale48 _ _ _ _ (col_ref (m ((c : Thread nD τ).loc main_arg3))))

/-- The reference's codes, over all places. -/
theorem codes14 (c : Dev nD) : Value.reg_main_v14 (F := Ideal) m c
    = fun i : S16384x7168.Idx => codeSpec (m ((c : Thread nD τ).loc main_arg0)) (m ((c : Thread nD τ).loc main_arg2)) (i 0) (i 1) := by
  funext i
  idx_vars i
  exact (codes_apply m c i0 i1).trans (entry_apply m c i0 i1)

/-- The reference's run: its four result arrays in closed form, and its arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v47) = (fun i : S2x128.Idx => amaxSpec (m ((c : Thread nD τ).loc main_arg0)) (rowIx i))
      ∧ r.2.mem ((c.tc : Thread nD τ).loc main_v48) = (fun i : S2x128.Idx => scaleSpec (m ((c : Thread nD τ).loc main_arg0)) (m ((c : Thread nD τ).loc main_arg1)) (m ((c : Thread nD τ).loc main_arg3) ix0) (rowIx i))
      ∧ r.2.mem ((c.tc : Thread nD τ).loc main_v14) = (fun i : S16384x7168.Idx => codeSpec (m ((c : Thread nD τ).loc main_arg0)) (m ((c : Thread nD τ).loc main_arg2)) (i 0) (i 1))
      ∧ r.2.mem ((c.tc : Thread nD τ).loc main_v49) = (fun i : S2x128.Idx => m ((c : Thread nD τ).loc main_arg2) (ix1 (rowIx i)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (amax47 (m ((c : Thread nD τ).loc main_arg0))), (h c).2.1.trans (res48 m c),
      (h c).2.2.1.trans (codes14 m c), (h c).2.2.2.1.trans (used49 (m ((c : Thread nD τ).loc main_arg2))), (h c).2.2.2.2⟩) (Value.run m ρ)

end Cert.ReferenceIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KBits
public import proofs.«01_k».proof.Proof.KFrame
public import proofs.«01_k».proof.Proof.VOut
public import proofs.«01_k».proof.Proof.REnds
public import Idealize.ShloMosaic.Adequacy
public import Idealize.ShloMosaic.Init

@[expose] public section

noncomputable section

namespace Cert.Proof

open Idealize.ShloMosaic Idealize.SL.Sem Cert.Kernel

/-- Kernel and reference, over the exact reals, leave the same four result arrays. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, _, Cert.KernelIdeal.Gen.values m g, ?_⟩
  refine (θ_run Cert.ReferenceIdeal.defs _ _).mono (fun _ h c => ?_) (Cert.ReferenceIdeal.Gen.values m' g')
  obtain ⟨h0, h1, h2, h3, h4⟩ := h c
  obtain ⟨a0, a1, a2, a3⟩ := hargs c
  rw [a0] at h0 h1 h2
  rw [a1, a3] at h1
  rw [a2] at h2 h3
  exact ⟨h0, h1, h2, h3, h4⟩

/-- All five claims of the certificate. -/
theorem claim : Cert.Claim := ⟨Cert.Kernel.Gen.facts, Cert.KernelIdeal.Gen.facts, Cert.ReferenceIdeal.Gen.facts,
  Cert.Proof.frame_Kernel, fun m g _ => Cert.KernelIdeal.Gen.frame m g, fun m g _ => Cert.ReferenceIdeal.Gen.frame m g, trivial, algebraic⟩

end Cert.Proof

end
